-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_routed_KernelIdeal [hPre_finite_and_routed_KernelIdeal : Cert.Pre_finite_and_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_routed_ReferenceIdeal [hPre_finite_and_routed_ReferenceIdeal : Cert.Pre_finite_and_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_routed_KernelIdeal [hKernelIdeal : Cert.KernelIdeal.Facts] [hPre_finite_and_routed_KernelIdeal : Cert.Pre_finite_and_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_routed_ReferenceIdeal [hReferenceIdeal : Cert.ReferenceIdeal.Facts] [hPre_finite_and_routed_ReferenceIdeal : Cert.Pre_finite_and_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_and_routed_KernelIdeal [hKernelIdeal : Cert.KernelIdeal.Facts] [hReferenceIdeal : Cert.ReferenceIdeal.Facts] [hPre_finite_and_routed_KernelIdeal : Cert.Pre_finite_and_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 1024, 1024]⟩ ⟨3, ![32, 1024, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 1024]⟩ ⟨2, ![2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_and_routed_KernelIdeal : Cert.Pre_finite_and_routed_KernelIdeal.Facts) (hPre_finite_and_routed_ReferenceIdeal : Cert.Pre_finite_and_routed_ReferenceIdeal.Facts),
    quiescent_Kernel (hKernel := hKernel)
    ∧ quiescent_KernelIdeal (hKernelIdeal := hKernelIdeal)
    ∧ quiescent_KernelIdeal_pre_finite_and_routed_KernelIdeal (hKernelIdeal := hKernelIdeal) (hPre_finite_and_routed_KernelIdeal := hPre_finite_and_routed_KernelIdeal)
    ∧ quiescent_ReferenceIdeal (hReferenceIdeal := hReferenceIdeal)
    ∧ quiescent_ReferenceIdeal_pre_finite_and_routed_ReferenceIdeal (hReferenceIdeal := hReferenceIdeal) (hPre_finite_and_routed_ReferenceIdeal := hPre_finite_and_routed_ReferenceIdeal)
    ∧ preserves_Kernel_KernelIdeal
    ∧ algebraic_KernelIdeal_ReferenceIdeal_pre_finite_and_routed_KernelIdeal (hKernelIdeal := hKernelIdeal) (hReferenceIdeal := hReferenceIdeal) (hPre_finite_and_routed_KernelIdeal := hPre_finite_and_routed_KernelIdeal)
-- ==== Pre_finite_and_routed_KernelIdeal.lean ====
abbrev S2048x1024 : Shape := ⟨2, ![2048, 1024]⟩
abbrev S1024x32 : Shape := ⟨2, ![1024, 32]⟩
abbrev S2048x2 : Shape := ⟨2, ![2048, 2]⟩
abbrev S8x1024x1024 : Shape := ⟨3, ![8, 1024, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x32 : S_.BroadcastsInDim S1024x32 (![] : Fin 0 → Fin S1024x32.rank)
  reducesTo_S1024x32_S_d0_1 : S1024x32.ReducesTo [0, 1] S_
  bcast_S_S2048x2 : S_.BroadcastsInDim S2048x2 (![] : Fin 0 → Fin S2048x2.rank)
  reducesTo_S2048x2_S_d0_1 : S2048x2.ReducesTo [0, 1] S_

variable [Facts]

def fn {F : FTy → Type} [FloatOps F] (main_arg0 : FVec F S2048x1024 .f32) (main_arg1 : FVec F S1024x32 .f32) (main_arg2 : IVec S2048x2 32) (main_arg3 : FVec F S8x1024x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x32 .f32 := Host.absf main_arg1
  let main_cst_0 : FVec F S_ .f32 := constant S_ .f32 0x7F800000#32
  let main_v5 : FVec F S1024x32 .f32 := broadcastInDim S1024x32 ![] bcast_S_S1024x32 main_cst_0
  let main_v6 : IVec S1024x32 1 := cmpf .olt main_v4 main_v5
  let main_c_1 : IVec S_ 1 := constantI S_ 1 1#1
  let main_v7 : IVec S_ 1 := (fun x v => Host.reduce IntOp.andi x v reducesTo_S1024x32_S_d0_1 h_S_) main_v6 main_c_1
  let main_v8 : IVec S_ 1 := andi main_v3 main_v7
  let main_c_2 : IVec S_ 32 := constantI S_ 32 0#32
  let main_v9 : IVec S2048x2 32 := broadcastInDim S2048x2 ![] bcast_S_S2048x2 main_c_2
  let main_v10 : IVec S2048x2 1 := cmpi .sge main_arg2 main_v9
  let main_c_3 : IVec S_ 32 := constantI S_ 32 32#32
  let main_v11 : IVec S2048x2 32 := broadcastInDim S2048x2 ![] bcast_S_S2048x2 main_c_3
  let main_v12 : IVec S2048x2 1 := cmpi .slt main_arg2 main_v11
  let main_v13 : IVec S2048x2 1 := andi main_v10 main_v12
  let main_c_4 : IVec S_ 1 := constantI S_ 1 1#1
  let main_v14 : IVec S_ 1 := (fun x v => Host.reduce IntOp.andi x v reducesTo_S2048x2_S_d0_1 h_S_) main_v13 main_c_4
  let main_v15 : IVec S_ 1 := andi main_v8 main_v14
  main_v15
-- ==== Pre_finite_and_routed_ReferenceIdeal.lean ====
abbrev S2048x1024 : Shape := ⟨2, ![2048, 1024]⟩
abbrev S1024x32 : Shape := ⟨2, ![1024, 32]⟩
abbrev S2048x2 : Shape := ⟨2, ![2048, 2]⟩
abbrev S32x1024x1024 : Shape := ⟨3, ![32, 1024, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x32 : S_.BroadcastsInDim S1024x32 (![] : Fin 0 → Fin S1024x32.rank)
  reducesTo_S1024x32_S_d0_1 : S1024x32.ReducesTo [0, 1] S_
  bcast_S_S2048x2 : S_.BroadcastsInDim S2048x2 (![] : Fin 0 → Fin S2048x2.rank)
  reducesTo_S2048x2_S_d0_1 : S2048x2.ReducesTo [0, 1] S_

variable [Facts]

def fn {F : FTy → Type} [FloatOps F] (main_arg0 : FVec F S2048x1024 .f32) (main_arg1 : FVec F S1024x32 .f32) (main_arg2 : IVec S2048x2 32) (main_arg3 : FVec F S32x1024x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x32 .f32 := Host.absf main_arg1
  let main_cst_0 : FVec F S_ .f32 := constant S_ .f32 0x7F800000#32
  let main_v5 : FVec F S1024x32 .f32 := broadcastInDim S1024x32 ![] bcast_S_S1024x32 main_cst_0
  let main_v6 : IVec S1024x32 1 := cmpf .olt main_v4 main_v5
  let main_c_1 : IVec S_ 1 := constantI S_ 1 1#1
  let main_v7 : IVec S_ 1 := (fun x v => Host.reduce IntOp.andi x v reducesTo_S1024x32_S_d0_1 h_S_) main_v6 main_c_1
  let main_v8 : IVec S_ 1 := andi main_v3 main_v7
  let main_c_2 : IVec S_ 32 := constantI S_ 32 0#32
  let main_v9 : IVec S2048x2 32 := broadcastInDim S2048x2 ![] bcast_S_S2048x2 main_c_2
  let main_v10 : IVec S2048x2 1 := cmpi .sge main_arg2 main_v9
  let main_c_3 : IVec S_ 32 := constantI S_ 32 32#32
  let main_v11 : IVec S2048x2 32 := broadcastInDim S2048x2 ![] bcast_S_S2048x2 main_c_3
  let main_v12 : IVec S2048x2 1 := cmpi .slt main_arg2 main_v11
  let main_v13 : IVec S2048x2 1 := andi main_v10 main_v12
  let main_c_4 : IVec S_ 1 := constantI S_ 1 1#1
  let main_v14 : IVec S_ 1 := (fun x v => Host.reduce IntOp.andi x v reducesTo_S2048x2_S_d0_1 h_S_) main_v13 main_c_4
  let main_v15 : IVec S_ 1 := andi main_v8 main_v14
  main_v15
-- ==== Kernel.lean ====
abbrev S2048x1024 : Shape := ⟨2, ![2048, 1024]⟩
abbrev S1024x32 : Shape := ⟨2, ![1024, 32]⟩
abbrev S2048x2 : Shape := ⟨2, ![2048, 2]⟩
abbrev S8x1024x1024 : Shape := ⟨3, ![8, 1024, 1024]⟩
abbrev S512x1024 : Shape := ⟨2, ![512, 1024]⟩
abbrev S2048x8 : Shape := ⟨2, ![2048, 8]⟩
abbrev S2x1024x1024 : Shape := ⟨3, ![2, 1024, 1024]⟩
abbrev S3x512x1024 : Shape := ⟨3, ![3, 512, 1024]⟩
abbrev S2 : Shape := ⟨1, ![2]⟩
abbrev S3 : Shape := ⟨1, ![3]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩
abbrev S2048x32 : Shape := ⟨2, ![2048, 32]⟩
abbrev S2048x1 : Shape := ⟨2, ![2048, 1]⟩
abbrev S2048 : Shape := ⟨1, ![2048]⟩
abbrev S512x8 : Shape := ⟨2, ![512, 8]⟩
abbrev S512x1 : Shape := ⟨2, ![512, 1]⟩
abbrev S1x512x1024 : Shape := ⟨3, ![1, 512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024x32, .f32⟩
  | .hbm, ⟨2, _⟩ => ⟨S2048x2, .i32⟩
  | .hbm, ⟨3, _⟩ => ⟨S8x1024x1024, .f32⟩
  | .hbm, ⟨4, _⟩ => ⟨S512x1024, .f32⟩
  | .local _ .vmem, ⟨0, _⟩ => ⟨S2048x1024, .f32⟩
  | .local _ .vmem, ⟨1, _⟩ => ⟨S1024x32, .f32⟩
  | .local _ .vmem, ⟨2, _⟩ => ⟨S2048x2, .i32⟩
  | .local _ .vmem, ⟨3, _⟩ => ⟨S512x1024, .f32⟩
  | .local _ .vmem, ⟨4, _⟩ => ⟨S2048x8, .f32⟩
  | .local _ .vmem, ⟨5, _⟩ => ⟨S2048x1024, .bf16⟩
  | .local _ .vmem, ⟨6, _⟩ => ⟨S2x1024x1024, .f32⟩
  | .local _ .vmem, ⟨7, _⟩ => ⟨S8x1024x1024, .bf16⟩
  | .local _ .vmem, ⟨8, _⟩ => ⟨S3x512x1024, .bf16⟩
  | .local _ .vmem, ⟨9, _⟩ => ⟨S3x512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_44 : BitVec 32 := 1#32
  let v85 : BitVec 32 := Scalar.addi v2 c1_i32_44
  let c4_i32_45 : BitVec 32 := 4#32
  let v86 : BitVec 32 := Scalar.remsi v85 c4_i32_45
  let c512_i32 : BitVec 32 := 512#32
  let v87 : BitVec 32 := Scalar.muli v86 c512_i32
  let v88 : Index := Scalar.indexCast v87
  let c0_46 : Index := 0#32
  ![v88.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_44 : BitVec 32 := 1#32
  let v85 : BitVec 32 := Scalar.addi v2 c1_i32_44
  let c4_i32_45 : BitVec 32 := 4#32
  let v86 : BitVec 32 := Scalar.remsi v85 c4_i32_45
  let c512_i32_47 : BitVec 32 := 512#32
  let v90 : BitVec 32 := Scalar.muli v86 c512_i32_47
  let v91 : Index := Scalar.indexCast v90
  let c0_48 : Index := 0#32
  ![v91.toNat, 0]
def k0_dev4 (d0 : Dev nD) : Nat :=
  let c0_i32_231 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_223 : BitVec 32 := 1#32
  let v286 : BitVec 32 := Scalar.addi v2 c1_i32_223
  let c0_i32_224 : BitVec 32 := 0#32
  let v287 : BitVec 32 := Scalar.addi v286 c0_i32_224
  let c4_i32_225 : BitVec 32 := 4#32
  let v288 : BitVec 32 := Scalar.remsi v287 c4_i32_225
  let c1_i32_230 : BitVec 32 := 1#32
  let v289 : BitVec 32 := Scalar.muli v288 c1_i32_230
  let v290 : BitVec 32 := Scalar.addi c0_i32_231 v289
  v290.toNat
def k0_off3 (d0 : Dev nD) (c1_i32_237 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_236 : BitVec 32 := 1#32
  let v299 : BitVec 32 := Scalar.addi v2 c1_i32_236
  let v300 : BitVec 32 := Scalar.addi v299 c1_i32_237
  let c4_i32_238 : BitVec 32 := 4#32
  let v301 : BitVec 32 := Scalar.remsi v300 c4_i32_238
  let c512_i32_239 : BitVec 32 := 512#32
  let v302 : BitVec 32 := Scalar.muli v301 c512_i32_239
  let v303 : Index := Scalar.indexCast v302
  let c0_240 : Index := 0#32
  ![v303.toNat, 0]
def k0_off4 (d0 : Dev nD) (c1_i32_237 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_236 : BitVec 32 := 1#32
  let v299 : BitVec 32 := Scalar.addi v2 c1_i32_236
  let v300 : BitVec 32 := Scalar.addi v299 c1_i32_237
  let c4_i32_238 : BitVec 32 := 4#32
  let v301 : BitVec 32 := Scalar.remsi v300 c4_i32_238
  let c512_i32_241 : BitVec 32 := 512#32
  let v305 : BitVec 32 := Scalar.muli v301 c512_i32_241
  let v306 : Index := Scalar.indexCast v305
  let c0_242 : Index := 0#32
  ![v306.toNat, 0]
def k0_dev5 (d0 : Dev nD) : Nat :=
  let c0_i32_284 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_236 : BitVec 32 := 1#32
  let v299 : BitVec 32 := Scalar.addi v2 c1_i32_236
  let c1_i32_237 : BitVec 32 := 1#32
  let v300 : BitVec 32 := Scalar.addi v299 c1_i32_237
  let c4_i32_238 : BitVec 32 := 4#32
  let v301 : BitVec 32 := Scalar.remsi v300 c4_i32_238
  let c1_i32_283 : BitVec 32 := 1#32
  let v369 : BitVec 32 := Scalar.muli v301 c1_i32_283
  let v370 : BitVec 32 := Scalar.addi c0_i32_284 v369
  v370.toNat
def k0_dev6 (d0 : Dev nD) : Nat :=
  let c0_i32_337 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_289 : BitVec 32 := 1#32
  let v379 : BitVec 32 := Scalar.addi v2 c1_i32_289
  let c2_i32_290 : BitVec 32 := 2#32
  let v380 : BitVec 32 := Scalar.addi v379 c2_i32_290
  let c4_i32_291 : BitVec 32 := 4#32
  let v381 : BitVec 32 := Scalar.remsi v380 c4_i32_291
  let c1_i32_336 : BitVec 32 := 1#32
  let v449 : BitVec 32 := Scalar.muli v381 c1_i32_336
  let v450 : BitVec 32 := Scalar.addi c0_i32_337 v449
  v450.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_342 : BitVec 32 := 512#32
  let v459 : BitVec 32 := Scalar.muli v2 c512_i32_342
  let v460 : Index := Scalar.indexCast v459
  let c0_343 : Index := 0#32
  ![v460.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_344 : BitVec 32 := 512#32
  let v462 : BitVec 32 := Scalar.muli v2 c512_i32_344
  let v463 : Index := Scalar.indexCast v462
  let c0_345 : Index := 0#32
  ![v463.toNat, 0]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x1024 : Shape := ⟨2, ![2048, 1024]⟩
abbrev S1024x32 : Shape := ⟨2, ![1024, 32]⟩
abbrev S2048x2 : Shape := ⟨2, ![2048, 2]⟩
abbrev S32x1024x1024 : Shape := ⟨3, ![32, 1024, 1024]⟩
abbrev S2048x32 : Shape := ⟨2, ![2048, 32]⟩
abbrev S_ : Shape := ⟨0, ![]⟩
abbrev S2048 : Shape := ⟨1, ![2048]⟩
abbrev S2048x1 : Shape := ⟨2, ![2048, 1]⟩
abbrev S2048x2x1 : Shape := ⟨3, ![2048, 2, 1]⟩
abbrev S1 : Shape := ⟨1, ![1]⟩
abbrev S1x1x1 : Shape := ⟨3, ![1, 1, 1]⟩
abbrev S2048x1024x1024 : Shape := ⟨3, ![2048, 1024, 1024]⟩

abbrev nBuf : Space → Nat
  | .hbm => 74
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x32, .f32⟩
  | .hbm, ⟨2, _⟩ => ⟨S2048x2, .i32⟩
  | .hbm, ⟨3, _⟩ => ⟨S32x1024x1024, .f32⟩
  | .hbm, ⟨4, _⟩ => ⟨S2048x32, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x32, .f32⟩
  | .hbm, ⟨9, _⟩ => ⟨S2048x32, .f32⟩
  | .hbm, ⟨10, _⟩ => ⟨S2048x32, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x32, .f32⟩
  | .hbm, ⟨15, _⟩ => ⟨S2048x32, .f32⟩
  | .hbm, ⟨16, _⟩ => ⟨S_, .i32⟩
  | .hbm, ⟨17, _⟩ => ⟨S2048x2, .i32⟩
  | .hbm, ⟨18, _⟩ => ⟨S2048x2, .i1⟩
  | .hbm, ⟨19, _⟩ => ⟨S_, .i32⟩
  | .hbm, ⟨20, _⟩ => ⟨S2048x2, .i32⟩
  | .hbm, ⟨21, _⟩ => ⟨S2048x2, .i32⟩
  | .hbm, ⟨22, _⟩ => ⟨S2048x2, .i32⟩
  | .hbm, ⟨23, _⟩ => ⟨S2048x2x1, .i32⟩
  | .hbm, ⟨24, _⟩ => ⟨S1, .i32⟩
  | .hbm, ⟨25, _⟩ => ⟨S_, .i32⟩
  | .hbm, ⟨26, _⟩ => ⟨S2048x2x1, .i32⟩
  | .hbm, ⟨27, _⟩ => ⟨S2048x2x1, .i1⟩
  | .hbm, ⟨28, _⟩ => ⟨S1x1x1, .i32⟩
  | .hbm, ⟨29, _⟩ => ⟨S2048x2x1, .i32⟩
  | .hbm, ⟨30, _⟩ => ⟨S2048x2x1, .i1⟩
  | .hbm, ⟨31, _⟩ => ⟨S2048x2x1, .i1⟩
  | .hbm, ⟨32, _⟩ => ⟨S_, .i1⟩
  | .hbm, ⟨33, _⟩ => ⟨S2048x2, .i1⟩
  | .hbm, ⟨34, _⟩ => ⟨S2048x2, .f32⟩
  | .hbm, ⟨35, _⟩ => ⟨S_, .f32⟩
  | .hbm, ⟨36, _⟩ => ⟨S2048x2, .f32⟩
  | .hbm, ⟨37, _⟩ => ⟨S2048x2, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x2, .f32⟩
  | .hbm, ⟨42, _⟩ => ⟨S2048x2, .f32⟩
  | .hbm, ⟨43, _⟩ => ⟨S2048x1, .i32⟩
  | .hbm, ⟨44, _⟩ => ⟨S2048, .i32⟩
  | .hbm, ⟨45, _⟩ => ⟨S2048x1, .i32⟩
  | .hbm, ⟨46, _⟩ => ⟨S2048, .i32⟩
  | .hbm, ⟨47, _⟩ => ⟨S_, .i32⟩
  | .hbm, ⟨48, _⟩ => ⟨S2048, .i32⟩
  | .hbm, ⟨49, _⟩ => ⟨S2048, .i1⟩
  | .hbm, ⟨50, _⟩ => ⟨S_, .i32⟩
  | .hbm, ⟨51, _⟩ => ⟨S2048, .i32⟩
  | .hbm, ⟨52, _⟩ => ⟨S2048, .i32⟩
  | .hbm, ⟨53, _⟩ => ⟨S2048, .i32⟩
  | .hbm, ⟨54, _⟩ => ⟨S2048x1, .i32⟩
  | .hbm, ⟨55, _⟩ => ⟨S2048x1024x1024, .f32⟩
  | .hbm, ⟨56, _⟩ => ⟨S2048x1024, .f32⟩
  | .hbm, ⟨57, _⟩ => ⟨S_, .i32⟩
  | .hbm, ⟨58, _⟩ => ⟨S2048, .i32⟩
  | .hbm, ⟨59, _⟩ => ⟨S2048, .i1⟩
  | .hbm, ⟨60, _⟩ => ⟨S_, .i32⟩
  | .hbm, ⟨61, _⟩ => ⟨S2048, .i32⟩
  | .hbm, ⟨62, _⟩ => ⟨S2048, .i32⟩
  | .hbm, ⟨63, _⟩ => ⟨S2048, .i32⟩
  | .hbm, ⟨64, _⟩ => ⟨S2048x1, .i32⟩
  | .hbm, ⟨65, _⟩ => ⟨S2048x1024x1024, .f32⟩
  | .hbm, ⟨66, _⟩ => ⟨S2048x1024, .f32⟩
  | .hbm, ⟨67, _⟩ => ⟨S2048x1, .f32⟩
  | .hbm, ⟨68, _⟩ => ⟨S2048x1024, .f32⟩
  | .hbm, ⟨69, _⟩ => ⟨S2048x1024, .f32⟩
  | .hbm, ⟨70, _⟩ => ⟨S2048x1, .f32⟩
  | .hbm, ⟨71, _⟩ => ⟨S2048x1024, .f32⟩
  | .hbm, ⟨72, _⟩ => ⟨S2048x1024, .f32⟩
  | .hbm, ⟨73, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_cst : Ref sig .tc := ⟨.hbm, 35, rfl⟩
abbrev main_call0_v14 : Ref sig .tc := ⟨.hbm, 36, rfl⟩
abbrev main_v10 : Ref sig .tc := ⟨.hbm, 37, rfl⟩
abbrev main_cst_1 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_c : Ref sig .tc := ⟨.hbm, 47, rfl⟩
abbrev main_v19 : Ref sig .tc := ⟨.hbm, 48, rfl⟩
abbrev main_v20 : Ref sig .tc := ⟨.hbm, 49, rfl⟩
abbrev main_c_2 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c_3 : Ref sig .tc := ⟨.hbm, 57, rfl⟩
abbrev main_v27 : Ref sig .tc := ⟨.hbm, 58, rfl⟩
abbrev main_v28 : Ref sig .tc := ⟨.hbm, 59, rfl⟩
abbrev main_c_4 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩

abbrev nD : Nat := 1
abbrev τ : Topo := Topo.v7x

variable {F : FTy → Type} [FloatOps F]
-- ==== Proof.Steps.lean ====
/- The steps of the kernel's body that concern one device only, as rules over `owns`: a slice of a buffer is owned at
   the value it reads, a load returns that value, a store replaces it, and a local copy of one slice into another
   carries the value over. The body (Body.lean) is executed with these, so every value it meets is already named. -/
module

public import Idealize.ShloMosaic.Lib.Pipeline.Launch
public import Idealize.ShloMosaic.Lib.Pipeline.Kit
public import Idealize.ShloMosaic.Lib.Transfers
public import Idealize.ShloMosaic.Lib.Memref
public import Idealize.ShloMosaic.Lib.ViewIndex
public import Idealize.ShloMosaic.Lib.Tactic

@[expose] public section

noncomputable section

namespace Cert.MoeProof

open Idealize.ShloMosaic
open Idealize.SL
open Idealize.SL.BI (sProp Storable)
open scoped Idealize.SL.BI
open Idealize.SL.BI.BIBase Idealize.SL.BI.Laws Idealize.SL.Sem Idealize.SL.ProofMode
open Idealize.SL.RA
open Idealize.ShloMosaic.Transfers

section Views

variable {sig : RefSig} {κ : Kind} {Val : EltTy → Type} {sp sp' : Space} {s s' : Shape} {e : EltTy}

/-- What a view re-indexed to another shape reads, re-indexed back, is what the view reads: a value written through one
    re-indexed view from another reads the same through the views themselves. -/
theorem read_write_squeezed (v : View sig κ sp s e) (u : View sig κ sp' s e) (h : s'.numel = s.numel)
    (f : v.ty.Contents Val) (g : u.ty.Contents Val) :
    v.read Val ((v.reshape s' h).write Val f ((u.reshape s' h).read Val g) Finset.univ) = u.read Val g := by
  funext x
  have e := View.read_write_reshape (Val := Val) v h f ((u.reshape s' h).read Val g) ((Shape.reshapeEquiv h).symm x)
  rw [Equiv.apply_symm_apply] at e
  rw [e]
  simp only [View.read_apply, View.emb_reshape, Function.Embedding.trans_apply, Equiv.coe_toEmbedding, Equiv.apply_symm_apply]

end Views

section Steps

variable {nD : Nat} {τ : Topo} {sig : RefSig} {Val : EltTy → Type}
variable {U : Type} [URA U] {Λ : Labels}

local notation "𝕄" => MT nD τ sig Unit Val ℕ U ℕ

variable {defs : Defs nD τ sig Val Λ} (𝒱 : Variants) (c : Thread nD τ) (bd : Option 𝒱.V)
variable {α : Type} {s s' : Shape} {e : EltTy}

/-- A load through a rectangle of a memref whose slice there is owned at `X` returns `X`. -/
theorem wp_load_owns {cs : CoreSpace} {m : Memref sig c.2.kind cs s e} {r : Rect s} (hr : ∀ a, r.stride a = 1)
    {hl : m.view.LoadsAt r.toLoadRect} {k : (r.shape.Idx → Val e) → Prog (TpuEff nD τ sig Val Λ c.2) α} {Q : α → sProp 𝕄}
    {q : PosShare TreeShare} {X : r.shape.Idx → Val e} :
    (owns c (m.slice r hr) q X : sProp 𝕄)
      ⊢ iprop((owns c (m.slice r hr) q X -∗ wp frame (wpE defs 𝒱 c bd) Set.univ (k X) Q)
        -∗ wp frame (wpE defs 𝒱 c bd) Set.univ (.op (.load m r.toLoadRect hl) k) Q) := by
  unfold owns
  iintro ⟨%f, %hf, H⟩ Hk
  subst hf
  iapply (wp_load_rect 𝒱 c bd Set.univ (m := m) (r := r) (hl := hl) (S := (m.access r).set) (Finset.Subset.refl _)) $$ H
  iintro H
  iapply Hk
  iexists f
  isplitr; · ipureintro; rfl
  iexact H

/-- A store through a rectangle of a memref whose slice there is owned leaves the slice owned at what was stored. -/
theorem wp_store_owns {cs : CoreSpace} {m : Memref sig c.2.kind cs s e} {r : Rect s} (hr : ∀ a, r.stride a = 1)
    {w : r.shape.Idx → Val e} {hx : (m.access r).Stores Finset.univ} {hm : Finset.univ = Finset.univ ∨ ∀ a, r.stride a = 1}
    {k : PUnit → Prog (TpuEff nD τ sig Val Λ c.2) α} {Q : α → sProp 𝕄} {X : r.shape.Idx → Val e} :
    (owns c (m.slice r hr) fullShare X : sProp 𝕄)
      ⊢ iprop((owns c (m.slice r hr) fullShare w -∗ wp frame (wpE defs 𝒱 c bd) Set.univ (k ⟨⟩) Q)
        -∗ wp frame (wpE defs 𝒱 c bd) Set.univ (.op (.store m r w Finset.univ hx hm) k) Q) := by
  unfold owns
  iintro ⟨%f, %hf, H⟩ Hk
  iapply (wp_store 𝒱 c bd Set.univ (m := m) (r := r) (w := w) (Mk := Finset.univ) (hx := hx) (hm := hm)
    (S := (m.access r).set) (f := f) (Finset.Subset.refl _)) $$ H
  iintro H
  iapply Hk
  iexists _
  isplitr
  rotate_left
  · iexact H
  · ipureintro; exact View.read_write_univ _ _

variable [CountersIn U]

/-- A copy under way from the slice `A` of a buffer held at `f` into the slice `D`: what its wait will hand over, and
    the rest of the buffer it reads. -/
def fetching {sp sp' : Space} (A : Memref sig c.2.kind sp s e) (D : Memref sig c.2.kind sp' s e) (sm : DmaSem sig) (N : ℕ)
    (q : PosShare TreeShare) (f : Buf Val (A.view.loc c)) : sProp 𝕄 :=
  iprop(Flight (countersEmb (U := U)) c (.dma sm) () N
      iprop(owns c D fullShare (A.view.read Val f) ∗ (A.view.loc c ↦[A.view.set]{q} f))
    ∗ (A.view.loc c ↦[Finset.univ \ A.view.set]{q} f))

/-- Issuing a local copy between two squeezed slices, its cell at zero. -/
theorem wp_fetch {sp sp' : Space} {A : Memref sig c.2.kind sp s e} {D : Memref sig c.2.kind sp' s e} (hs : s.Squeezes s')
    {sm : DmaSem sig} {hsrc : (A.squeeze s' hs).view.WordExact} {hdst : (D.squeeze s' hs).view.WordExact}
    {hsem : DmaTarget.Typed (nD := nD) sp (.dma sm) (.here (D.squeeze s' hs))}
    {k : PUnit → Prog (TpuEff nD τ sig Val Λ c.2) α} {Q : α → sProp 𝕄} {q : PosShare TreeShare} {f : Buf Val (A.view.loc c)} {X : s.Idx → Val e}
    (N : ℕ) (hN : (D.squeeze s' hs).view.amount (.dma sm) = N) (hN0 : 0 < N) :
    iprop((A.view.loc c ↦{q} f) ∗ owns c D fullShare X ∗ semVal (c, .dma sm) 0)
      ⊢ iprop((fetching (U := U) c A D sm N q f -∗ wp frame (wpE defs 𝒱 c bd) Set.univ (k ⟨⟩) Q)
          -∗ wp frame (wpE defs 𝒱 c bd) Set.univ (.op (.enqueueDma (A.squeeze s' hs) (.here (D.squeeze s' hs)) (.dma sm) hsrc hdst hsem) k) Q) := by
  have hset : (A.squeeze s' hs).view.set = A.view.set := View.set_reshape _ _
  have hsetD : (D.squeeze s' hs).view.set = D.view.set := View.set_reshape _ _
  unfold fetching owns
  iintro ⟨Ha, ⟨%g, -, Hd⟩, Hv⟩ Hk
  ihave Ha' := (pointsTo_split_subset (q := q) (f := f) (Finset.subset_univ A.view.set)).1 $$ Ha
  icases Ha' with ⟨Ha, Hrest⟩
  iapply (wp_dmaLocal (countersEmb (U := U)) 𝒱 c bd (src := A.squeeze s' hs) (via := .same) (dst := D.squeeze s' hs) (q := q) (fs := f)
    (Sd := D.view.set) (fd := g) () N hN hN0 (Finset.Subset.trans (Finset.subset_of_eq hsetD) (Finset.Subset.refl _))) $$ [Ha Hd Hv]
  · isplitl [Ha]; · iapply (Entails.of_eq (congrArg (fun S => (A.view.loc c ↦[S]{q} f : sProp 𝕄)) hset).symm); iexact Ha
    isplitl [Hd]; · iexact Hd
    iexact Hv
  iintro Hfl
  iapply Hk
  isplitr [Hrest]
  rotate_left
  · iexact Hrest
  iapply (Flight_mono (countersEmb (U := U)) c ?_) $$ Hfl
  iintro ⟨Hd, Ha⟩
  isplitl [Hd]
  · iexists _
    isplitr
    rotate_left
    · iexact Hd
    · ipureintro; exact read_write_squeezed D.view A.view hs.numel_eq g f
  · iapply (Entails.of_eq (congrArg (fun S => (A.view.loc c ↦[S]{q} f : sProp 𝕄)) hset)); iexact Ha

/-- Waiting for it: the slice holds what the other read, and the buffer read is whole again. -/
theorem wp_fetch_wait {sp sp' spw : Space} {sw sw' : Shape} {ew ew' : EltTy} {A : Memref sig c.2.kind sp s e} {D : Memref sig c.2.kind sp' s e}
    {sm : DmaSem sig} {srcw : Memref sig c.2.kind spw sw' ew'} {dstw : Memref sig c.2.kind sp' sw ew}
    {hsrc : srcw.view.WordExact} {hdst : dstw.view.WordExact}
    {k : PUnit → Prog (TpuEff nD τ sig Val Λ c.2) α} {Q : α → sProp 𝕄} {q : PosShare TreeShare} {f : Buf Val (A.view.loc c)}
    {O : CellTallies nD τ sig Unit} {W : Waits sig Unit} (N : ℕ) (hN : dstw.view.dmaCredit = N) :
    iprop(fetching (U := U) c A D sm N q f ∗ owes c O W ∗ MayWait c (.dma sm) () O)
      ⊢ iprop((iprop(owns c D fullShare (A.view.read Val f) ∗ (A.view.loc c ↦{q} f) ∗ semVal (c, .dma sm) 0
              ∗ owes c O (insert (SemLoc.dma sm, ()) W)) -∗ wp frame (wpE defs 𝒱 c bd) Set.univ (k ⟨⟩) Q)
          -∗ wp frame (wpE defs 𝒱 c bd) Set.univ (.op (.waitDma2 sm srcw dstw hsrc hdst) k) Q) := by
  unfold fetching
  iintro ⟨⟨Hfl, Hrest⟩, HO, Hmw⟩ Hk
  iapply (wp_waitLocalO (countersEmb (U := U)) 𝒱 c bd () hN) $$ [Hfl HO Hmw]
  · isplitl [Hfl]; · iexact Hfl
    isplitl [HO] <;> iassumption
  iintro ⟨⟨Hd, Ha⟩, Hv, HO⟩
  iapply Hk
  isplitl [Hd]; · iexact Hd
  isplitl [Ha Hrest]
  · iapply (pointsTo_split_subset (q := q) (f := f) (Finset.subset_univ A.view.set)).2
    isplitl [Ha] <;> iassumption
  isplitl [Hv] <;> iassumption

end Steps

end Cert.MoeProof

end
-- ==== Proof.Values.lean ====
/- What the buffers of one device hold at each stage of the kernel, as functions of the arguments: the activations in
   bfloat16, the gate values of the device's own experts, its experts' weights in bfloat16, the partial result it sends
   to each other device, and the block of the result it ends with. -/
module

public import proofs.«01_k».proof.Proof.Steps
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.MoeProof

open Cert.KernelIdeal Cert.KernelIdeal.Gen
open Idealize.ShloMosaic
open Idealize.ShloMosaic.TcCoe

variable {F : FTy → Type} [FloatOps F]

/-! ## The devices -/

set_option backward.proofsInPublic true in
/-- The device `n` places after `c`. -/
def sh (n : ℕ) (c : Dev nD) : Dev nD := ⟨(c.val + n) % 4, Nat.mod_lt _ (by decide)⟩

theorem sh_sh (a b : ℕ) (c : Dev nD) : sh a (sh b c) = sh (b + a) c := Fin.ext (by simp only [sh]; omega)
theorem sh_four (c : Dev nD) : sh 4 c = c := Fin.ext (by have : c.val < 4 := c.isLt; simp only [sh]; omega)

/-- Going `n` places on, as a rearrangement of the devices. -/
def shEquiv (n : Fin 4) : Dev nD ≃ Dev nD where
  toFun := sh n
  invFun := sh (4 - n.val)
  left_inv c := by rw [sh_sh, show n.val + (4 - n.val) = 4 by omega, sh_four]
  right_inv c := by rw [sh_sh, show 4 - n.val + n.val = 4 by omega, sh_four]

theorem dev1_eq (c : Dev nD) : (⟨k0_dev1 c, k0_dev1_lt c⟩ : Dev nD) = sh 1 c := Fin.ext (k0_dev1_eq c)
theorem dev2_eq (c : Dev nD) : (⟨k0_dev2 c, k0_dev2_lt c⟩ : Dev nD) = sh 2 c := Fin.ext (k0_dev2_eq c)
theorem dev3_eq (c : Dev nD) : (⟨k0_dev3 c, k0_dev3_lt c⟩ : Dev nD) = sh 3 c := Fin.ext (k0_dev3_eq c)
theorem dev4_eq (c : Dev nD) : (⟨k0_dev4 c, k0_dev4_lt c⟩ : Dev nD) = sh 1 c := Fin.ext (k0_dev4_eq c)
theorem dev5_eq (c : Dev nD) : (⟨k0_dev5 c, k0_dev5_lt c⟩ : Dev nD) = sh 2 c := Fin.ext (k0_dev5_eq c)
theorem dev6_eq (c : Dev nD) : (⟨k0_dev6 c, k0_dev6_lt c⟩ : Dev nD) = sh 3 c := Fin.ext (k0_dev6_eq c)

/-! ## The slots of the buffers -/

theorem slotR_inb (k : Fin 3) : ∀ a, (![k.val, 0, 0] : Fin 3 → Nat) a + S1x512x1024.size a ≤ S3x512x1024.size a := by revert k; decide
theorem stgR_inb (j : Fin 2) : ∀ a, (![j.val, 0, 0] : Fin 3 → Nat) a + S1x1024x1024.size a ≤ S2x1024x1024.size a := by revert j; decide
theorem exR_inb (j : Fin 8) : ∀ a, (![j.val, 0, 0] : Fin 3 → Nat) a + S1x1024x1024.size a ≤ S8x1024x1024.size a := by revert j; decide
theorem semR_inb (k : Fin 3) : ∀ a, (![k.val] : Fin 1 → Nat) a + S1.size a ≤ S3.size a := by revert k; decide
theorem cpyR_inb (j : Fin 2) : ∀ a, (![j.val] : Fin 1 → Nat) a + S1.size a ≤ S2.size a := by revert j; decide

/-- Slot `k` of a buffer of three chunks; -/
abbrev slotR (k : Fin 3) : Rect S3x512x1024 := Rect.unit (s := S3x512x1024) ![k.val, 0, 0] S1x512x1024.size (slotR_inb k)
/-- slot `j` of the buffer two experts' weights are staged in; -/
abbrev stgR (j : Fin 2) : Rect S2x1024x1024 := Rect.unit (s := S2x1024x1024) ![j.val, 0, 0] S1x1024x1024.size (stgR_inb j)
/-- expert `j` of a buffer of eight experts' weights. -/
abbrev exR (j : Fin 8) : Rect S8x1024x1024 := Rect.unit (s := S8x1024x1024) ![j.val, 0, 0] S1x1024x1024.size (exR_inb j)

abbrev gM : Memref sig .tc .vmem S2048x8 .f32 := Memref.whole cc0_scratch0
abbrev xM : Memref sig .tc .vmem S2048x1024 .bf16 := Memref.whole cc0_scratch1
abbrev stgM : Memref sig .tc .vmem S2x1024x1024 .f32 := Memref.whole cc0_scratch2
abbrev ewM : Memref sig .tc .vmem S8x1024x1024 .bf16 := Memref.whole cc0_scratch3
abbrev sendM : Memref sig .tc .vmem S3x512x1024 .bf16 := Memref.whole cc0_scratch4
abbrev recvM : Memref sig .tc .vmem S3x512x1024 .bf16 := Memref.whole cc0_scratch5
abbrev wM : Memref sig .tc .hbm S8x1024x1024 .f32 := Memref.whole main_arg3

abbrev stgSlot (j : Fin 2) : Memref sig .tc .vmem S1x1024x1024 .f32 := stgM.slice (stgR j) (fun _ => rfl)
abbrev ewSlot (j : Fin 8) : Memref sig .tc .vmem S1x1024x1024 .bf16 := ewM.slice (exR j) (fun _ => rfl)
abbrev wSlot (j : Fin 8) : Memref sig .tc .hbm S1x1024x1024 .f32 := wM.slice (exR j) (fun _ => rfl)
abbrev sendSlot (k : Fin 3) : Memref sig .tc .vmem S1x512x1024 .bf16 := sendM.slice (slotR k) (fun _ => rfl)
abbrev recvSlot (k : Fin 3) : Memref sig .tc .vmem S1x512x1024 .bf16 := recvM.slice (slotR k) (fun _ => rfl)

/-! ## What they hold -/

variable (m : (ℓ : Loc nD τ sig) → Buf (Elt F) ℓ)

/-- The activations, the router's weights and the routes, as staged on device `c`; -/
def xstg (c : Dev nD) : (cc0_stg0_0 : Ref sig .tc).ty.Contents (Elt F) :=
  (win0_0.blk (0 : Fin 1)).view.read (Elt F) (m ((c : Thread nD τ).loc main_arg0))
def rstg (c : Dev nD) : (cc0_stg1_0 : Ref sig .tc).ty.Contents (Elt F) :=
  (win0_1.blk (0 : Fin 1)).view.read (Elt F) (m ((c : Thread nD τ).loc main_arg1))
def istg (c : Dev nD) : (cc0_stg2_0 : Ref sig .tc).ty.Contents (Elt F) :=
  (win0_2.blk (0 : Fin 1)).view.read (Elt F) (m ((c : Thread nD τ).loc main_arg2))

/-- one of the two columns of the routes; -/
def route0 (c : Dev nD) : Vec F S2048x1 .i32 := fun i =>
  istg m c ((Rect.unit (s := S2048x2) ![0, 0] S2048x1.size inb_S2048x2_S2048x1_0_0).emb i)
def route1 (c : Dev nD) : Vec F S2048x1 .i32 := fun i =>
  istg m c ((Rect.unit (s := S2048x2) ![0, 1] S2048x1.size inb_S2048x2_S2048x1_0_1).emb i)

/-- the activations in bfloat16; -/
def xb (c : Dev nD) : Vec F S2048x1024 .bf16 := k0_pay1 (xstg m c)

/-- the device's number in the mesh, as the kernel computes it; -/
def devWord (c : Dev nD) : BitVec 32 := Scalar.remsi (Scalar.divsi (Dev.word c) 1#32) 4#32

/-- the gate value of each token at each of the device's eight experts; -/
def gates (c : Dev nD) : Vec F S2048x8 .f32 :=
  k0_pay12 (devWord c) (k0_pay3 (route0 m c)) (k0_pay4 (route1 m c))
    (k0_pay10 (xb m c) (rstg m c) (route0 m c) (route1 m c)) (k0_pay11 (xb m c) (rstg m c) (route0 m c) (route1 m c))

/-- expert `j`'s weights as given, and in bfloat16; -/
def slab (c : Dev nD) (j : Fin 8) : Vec F S1x1024x1024 .f32 := (wSlot j).view.read (Elt F) (m ((c : Thread nD τ).loc main_arg3))
def ew (c : Dev nD) (j : Fin 8) : Vec F S1x1024x1024 .bf16 := k0_pay14 (slab m c j)

/-- 512 rows of the activations and of the gate values; -/
def xAt (c : Dev nD) (off : Fin 2 → ℕ) (inb : ∀ a, off a + S512x1024.size a ≤ S2048x1024.size a) : Vec F S512x1024 .bf16 := fun i =>
  xb m c ((Rect.unit (s := S2048x1024) off S512x1024.size inb).emb i)
def gAt (c : Dev nD) (off : Fin 2 → ℕ) (inb : ∀ a, off a + S512x8.size a ≤ S2048x8.size a) : Vec F S512x8 .f32 := fun i =>
  gates m c ((Rect.unit (s := S2048x8) off S512x8.size inb).emb i)

/-- the three partial results device `c` sends, the `k`-th to the device `k + 1` places on; -/
def sent0 (c : Dev nD) : Vec F S1x512x1024 .bf16 :=
  let x := xAt m c (k0_off1 c) (k0_off1_inb c)
  let g := gAt m c (k0_off2 c) (k0_off2_inb c)
  k0_pay30 x g
    (k0_pay28 x g (k0_pay26 x g (k0_pay21 x g (k0_pay19 x g (k0_pay17 x g (k0_pay15 x g k0_pay13 (ew m c 0)) (ew m c 1)) (ew m c 2)) (ew m c 3))
      (k0_pay23 x (ew m c 4)) (k0_pay24 g) (ew m c 5)) (ew m c 6)) (ew m c 7)
def sent1 (c : Dev nD) : Vec F S1x512x1024 .bf16 :=
  let x := xAt m c (k0_off3 c 1#32) (k0_off3_inb c 0)
  let g := gAt m c (k0_off4 c 1#32) (k0_off4_inb c 0)
  k0_pay33 x g (k0_pay31 x g (ew m c 0) (ew m c 1) (ew m c 2) (ew m c 3)) (k0_pay32 x g (ew m c 4)) (ew m c 5) (ew m c 6) (ew m c 7)
def sent2 (c : Dev nD) : Vec F S1x512x1024 .bf16 :=
  let x := xAt m c (k0_off3 c 2#32) (k0_off3_inb c 1)
  let g := gAt m c (k0_off4 c 2#32) (k0_off4_inb c 1)
  k0_pay36 x g (k0_pay34 x g (ew m c 0) (ew m c 1) (ew m c 2)) (k0_pay35 (ew m c 3)) (constant S512x1024 .f32 0x00000000#32)
    (ew m c 4) (ew m c 5) (ew m c 6) (ew m c 7)
def sent (c : Dev nD) : Fin 3 → Vec F S1x512x1024 .bf16
  | 0 => sent0 m c
  | 1 => sent1 m c
  | 2 => sent2 m c

/-- the partial result it keeps; -/
def kept (c : Dev nD) : FVec F S512x1024 .f32 :=
  let x := xAt m c (k0_off5 c) (k0_off5_inb c)
  let g := gAt m c (k0_off6 c) (k0_off6_inb c)
  k0_pay40 x g (k0_pay37 x g (ew m c 0) (ew m c 1)) (k0_pay38 x (ew m c 2)) (k0_pay39 g)
    (ew m c 3) (ew m c 4) (ew m c 5) (ew m c 6) (ew m c 7)

/-- what lands in its receive slot `s`, from the device `s + 1` places on; -/
def landed (c : Dev nD) (s : Fin 3) : Vec F S1x512x1024 .bf16 := sent m (sh (s.val + 1) c) s.rev

theorem landed_sent (c : Dev nD) (k : Fin 3) : landed m (sh (k.val + 1) c) k.rev = sent m c k := by
  unfold landed
  rw [sh_sh, show k.val + 1 + (k.rev.val + 1) = 4 by revert k; decide, sh_four, Fin.rev_rev]

/-- and the block of the result it ends with. -/
def outAt (c : Dev nD) : (cc0_stg3_0 : Ref sig .tc).ty.Contents (Elt F) :=
  k0_pay42 (k0_pay41 (kept m c) (landed m c 2) (landed m c 1)) (landed m c 0)

end Cert.MoeProof

end
-- ==== Proof.Protocol.lean ====
/- The protocol between the four devices. Each device has seven cells: its barrier semaphore, three send semaphores and
   three receive semaphores.
   * Barrier cell of `c`: three duties `d` of one unit, duty `d` paid by the device whose receive slot `d` device `c`
     writes; it hands over that slot, at anything, and that the device has reached round 0 of the slot's receive cell.
   * Send cell `k` of `c`: one duty of a chunk's credit, paid when `c`'s `k`-th transfer has read send slot `k`; it gives
     the slot back.
   * Receive cell `s` of `c`: one duty of a chunk's credit, paid when the transfer from the device `s + 1` places on has
     written receive slot `s`; it hands over the slot, holding that device's partial result for `c`. -/
module

public import proofs.«01_k».proof.Proof.Values
public import Idealize.ShloMosaic.Lib.Ring

@[expose] public section

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the pipeline's, the protocol's, and the counters of the local copies -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ)

/-! ## The cells -/

abbrev barS : Sem sig := (SemArray.scalar (sig.barrier 0 rfl) : Sems sig S_).sem
abbrev copyQ (j : Fin 2) : DmaSem sig := (((cc0_scratch6 : DmaSems sig S2).slice (Rect.unit (s := S2) ![j.val] S1.size (cpyR_inb j))).squeeze S_ squeezes_S1_S_).sem
abbrev sendQ (k : Fin 3) : DmaSem sig := (((cc0_scratch7 : DmaSems sig S3).slice (Rect.unit (s := S3) ![k.val] S1.size (semR_inb k))).squeeze S_ squeezes_S1_S_).sem
abbrev recvQ (k : Fin 3) : DmaSem sig := (((cc0_scratch8 : DmaSems sig S3).slice (Rect.unit (s := S3) ![k.val] S1.size (semR_inb k))).squeeze S_ squeezes_S1_S_).sem

theorem copyQ_val : ∀ j : Fin 2, (copyQ j).val = 4 + j.val := by decide
theorem sendQ_val : ∀ k : Fin 3, (sendQ k).val = 6 + k.val := by decide
theorem recvQ_val : ∀ k : Fin 3, (recvQ k).val = 9 + k.val := by decide

abbrev barCell (c : Dev nD) : GSem nD τ sig := ((c : Thread nD τ), .reg barS)
abbrev sendCell (c : Dev nD) (k : Fin 3) : GSem nD τ sig := ((c : Thread nD τ), .dma (sendQ k))
abbrev recvCell (c : Dev nD) (k : Fin 3) : GSem nD τ sig := ((c : Thread nD τ), .dma (recvQ k))

/-- The kernel's own semaphores: two for the local copies, three for sending, three for receiving; -/
abbrev osem : Fin 8 → SemLoc sig := fun
  | 0 => .dma (copyQ 0) | 1 => .dma (copyQ 1) | 2 => .dma (sendQ 0) | 3 => .dma (sendQ 1) | 4 => .dma (sendQ 2)
  | 5 => .dma (recvQ 0) | 6 => .dma (recvQ 1) | 7 => .dma (recvQ 2)
/-- the seven cells of a device's protocol. -/
abbrev csem : Fin 7 → SemLoc sig := fun
  | 0 => .reg barS | 1 => .dma (sendQ 0) | 2 => .dma (sendQ 1) | 3 => .dma (sendQ 2)
  | 4 => .dma (recvQ 0) | 5 => .dma (recvQ 1) | 6 => .dma (recvQ 2)
abbrev kcell (ck : Dev nD × Fin 7) : GSem nD τ sig := ((ck.1 : Thread nD τ), csem ck.2)

/-- The credit of one chunk. -/
abbrev N : ℕ := ((recvSlot 0).squeeze S512x1024 squeezes_S1x512x1024_S512x1024).view.dmaCredit
theorem N_pos : 0 < N := View.dmaCredit_pos _ (by decide)

/-! ## The schedule -/

/-- Which of the three a send or receive semaphore is. -/
def semSlot (q : DmaSem sig) : Fin 3 := ⟨q.val % 3, Nat.mod_lt _ (by decide)⟩
theorem semSlot_send : ∀ k : Fin 3, semSlot (sendQ k) = k := by decide
theorem semSlot_recv : ∀ k : Fin 3, semSlot (recvQ k) = k := by decide

/-- Duty `d` of `c`'s barrier cell hands `c` the receive slot `d` of the device `3 - d` places on. -/
def barPay (c : Dev nD) (d : Fin 3) : sProp 𝕄 :=
  iprop((∃ X, owns (sh (3 - d.val) c : Thread nD τ) (recvSlot d) fullShare X) ∗ reached ER (recvCell (sh (3 - d.val) c) d) 0)
def recvPay (c : Dev nD) (k : Fin 3) : sProp 𝕄 := owns (c : Thread nD τ) (recvSlot k) fullShare (landed m c k)
def sendPay (c : Dev nD) (k : Fin 3) : sProp 𝕄 := owns (c : Thread nD τ) (sendSlot k) fullShare (sent m c k)

/-- One round, round 0. -/
def ringRd : Rounds.Schedule (GSem nD τ sig) (Fin 3) 𝕄 where
  duties g r := if r = 0 ∧ g.1.2 = .tc then
      (match g.2 with
        | .reg s => if s = barS then Finset.univ else ∅
        | .dma q => if 6 ≤ q.val then {0} else ∅)
    else ∅
  unitless _ := False
  amount g _ _ := match g.2 with
    | .reg _ => 1
    | .dma _ => N
  payload g _ d := match g.2 with
    | .reg _ => barPay g.1.1 d
    | .dma q => if q.val < 9 then sendPay m g.1.1 (semSlot q) else recvPay m g.1.1 (semSlot q)
  amount_pos g _ _ _ := by
    rcases g with ⟨t, s | q⟩
    · exact Nat.one_pos
    · exact N_pos

instance ringRd_payload_storable (g : GSem nD τ sig) (r : ℕ) (d : Fin 3) :
    BI.Storable (upEmb : UEmb _ 𝕄) ((ringRd (F := F) m).payload g r d) := by
  rcases g with ⟨t, s | q⟩
  · show BI.Storable upEmb (barPay t.1 d)
    unfold barPay; infer_instance
  · show BI.Storable upEmb (if q.val < 9 then sendPay m t.1 (semSlot q) else recvPay m t.1 (semSlot q))
    unfold sendPay recvPay
    split <;> infer_instance

section Sched
variable (c : Dev nD) (k : Fin 3)

theorem duties_bar : (ringRd (F := F) m).duties (barCell c) 0 = Finset.univ := by
  dsimp only [ringRd]; rw [if_pos ⟨rfl, rfl⟩]; exact if_pos rfl
theorem duties_send : (ringRd (F := F) m).duties (sendCell c k) 0 = {0} := by
  dsimp only [ringRd]; rw [if_pos ⟨rfl, rfl⟩]; exact if_pos (by rw [sendQ_val]; omega)
theorem duties_recv : (ringRd (F := F) m).duties (recvCell c k) 0 = {0} := by
  dsimp only [ringRd]; rw [if_pos ⟨rfl, rfl⟩]; exact if_pos (by rw [recvQ_val]; omega)
theorem duties_later (g : GSem nD τ sig) : ∀ r, 1 ≤ r → (ringRd (F := F) m).duties g r = ∅ :=
  fun r hr => by dsimp only [ringRd]; rw [if_neg fun h => by omega]

theorem amount_bar (d : Fin 3) : (ringRd (F := F) m).amount (barCell c) 0 d = 1 := rfl
theorem amount_send (d : Fin 3) : (ringRd (F := F) m).amount (sendCell c k) 0 d = N := rfl
theorem amount_recv (d : Fin 3) : (ringRd (F := F) m).amount (recvCell c k) 0 d = N := rfl

theorem expect_bar : (ringRd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (ringRd (F := F) m).expect (sendCell c k) 0 = N := by
  unfold Schedule.expect Schedule.amountOf; rw [duties_send, Finset.sum_singleton, amount_send]
theorem expect_recv : (ringRd (F := F) m).expect (recvCell c k) 0 = N := by
  unfold Schedule.expect Schedule.amountOf; rw [duties_recv, Finset.sum_singleton, amount_recv]

theorem payload_bar (d : Fin 3) : (ringRd (F := F) m).payload (barCell c) 0 d = barPay c d := rfl
theorem payload_send (d : Fin 3) : (ringRd (F := F) m).payload (sendCell c k) 0 d = sendPay m c k := by
  dsimp only [ringRd]; rw [if_pos (by rw [sendQ_val]; omega), semSlot_send]
theorem payload_recv (d : Fin 3) : (ringRd (F := F) m).payload (recvCell c k) 0 d = recvPay m c k := by
  dsimp only [ringRd]; rw [if_neg (by rw [recvQ_val]; omega), semSlot_recv]

/-- What a wait for the whole round of each cell hands over. -/
theorem rest_bar : bigSep ((ringRd (F := F) m).duties (barCell c) 0 \ ∅) (fun d => (ringRd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
theorem rest_send : bigSep ((ringRd (F := F) m).duties (sendCell c k) 0 \ ∅) (fun d => (ringRd (F := F) m).payload (sendCell c k) 0 d) = sendPay m c k := by
  rw [Finset.sdiff_empty, duties_send, bigSep_singleton, payload_send]
theorem rest_recv : bigSep ((ringRd (F := F) m).duties (recvCell c k) 0 \ ∅) (fun d => (ringRd (F := F) m).payload (recvCell c k) 0 d) = recvPay m c k := by
  rw [Finset.sdiff_empty, duties_recv, bigSep_singleton, payload_recv]

end Sched

/-! ## What each core owes at launch; the levels -/

/-- The credit of `c`'s `k`-th transfer at the cell it lands on. -/
abbrev owedXfer (c : Dev nD) (k : Fin 3) : CellTallies nD τ sig Unit := tallyAt (recvCell (sh (k.val + 1) c) k.rev) () N
/-- What `c` owes after its first two transfers, after its first, after its signals, … -/
def O₅ (c : Dev nD) : CellTallies nD τ sig Unit := owedXfer c 2
def O₄ (c : Dev nD) : CellTallies nD τ sig Unit := O₅ c + owedXfer c 1
def O₃ (c : Dev nD) : CellTallies nD τ sig Unit := O₄ c + owedXfer c 0
def O₂ (c : Dev nD) : CellTallies nD τ sig Unit := O₃ c + tallyAt (barCell (sh 3 c)) () 1
def O₁ (c : Dev nD) : CellTallies nD τ sig Unit := O₂ c + tallyAt (barCell (sh 2 c)) () 1
/-- … and at launch. -/
def O₀ (c : Dev nD) : CellTallies nD τ sig Unit := O₁ c + tallyAt (barCell (sh 1 c)) () 1

def L (g : GSem nD τ sig) : Finset Unit := if g.1.2 = .tc then {()} else ∅
/-- Barrier cells at 1, receive cells at 2, everything else at 0. -/
def lv (g : GSem nD τ sig) (_ : Unit) : ℕ := match g.2 with
  | .reg _ => 1
  | .dma q => if 9 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Fin 3) (u : Unit) : lv (recvCell c k) u = 2 := if_pos (by rw [recvQ_val]; omega)

theorem tally_pos {g h : GSem nD τ sig} {u : Unit} {n : ℕ} (hp : 0 < (tallyAt h () n : CellTallies nD τ sig Unit) g u) : g = h := by
  rw [tallyAt_apply] at hp
  by_contra hn
  rw [if_neg (fun h' => hn h'.1)] at hp
  exact Nat.lt_irrefl 0 hp

theorem add_pos_cases {A B : CellTallies nD τ sig Unit} {g : GSem nD τ sig} {u : Unit} (h : 0 < (A + B) g u) : 0 < A g u ∨ 0 < B g u := by
  rw [Pi.add_apply, Finsupp.add_apply] at h; omega

/-- After the signals only receive cells are owed to. -/
theorem O₃_pos {c : Dev nD} {g : GSem nD τ sig} {u : Unit} (h : 0 < O₃ c g u) : ∃ d k, g = recvCell d k := by
  unfold O₃ O₄ O₅ at h
  rcases add_pos_cases h with h | h
  · rcases add_pos_cases h with h | h <;> exact ⟨_, _, tally_pos h⟩
  · exact ⟨_, _, tally_pos h⟩

theorem O₀_pos {c : Dev nD} {g : GSem nD τ sig} {u : Unit} (h : 0 < O₀ c g u) : (∃ d k, g = recvCell d k) ∨ ∃ d, g = barCell d := by
  unfold O₀ O₁ O₂ at h
  rcases add_pos_cases h with h | h
  · rcases add_pos_cases h with h | h
    · rcases add_pos_cases h with h | h
      · exact .inl (O₃_pos h)
      · exact .inr ⟨_, tally_pos h⟩
    · exact .inr ⟨_, tally_pos h⟩
  · exact .inr ⟨_, tally_pos h⟩

/-- A semaphore of level 0 may be waited on owing what is owed at launch, or less. -/
theorem mayWait_low (c : Dev nD) (q : DmaSem sig) (hq : q.val < 9) (O : CellTallies nD τ sig Unit)
    (hO : ∀ g u, 0 < O g u → 0 < O₀ c g u) : (levAts L lv : sProp 𝕄) ⊢ MayWait (c : Thread nD τ) (.dma q) () O :=
  MayOwe.of_cut (L := L) (lev := lv) 0 (fun p hp => by rw [Finset.mem_singleton.mp hp, L_tc]; exact Finset.mem_singleton_self _)
    (fun g u hg => by rcases O₀_pos (hO g u hg) with ⟨d, k, rfl⟩ | ⟨d, rfl⟩ <;> exact Finset.mem_singleton_self _)
    (fun p hp => by rw [Finset.mem_singleton.mp hp]; dsimp only [lv]; rw [if_neg (by omega)])
    (fun g u hg => by
      rcases O₀_pos (hO g u hg) with ⟨d, k, rfl⟩ | ⟨d, rfl⟩
      · rw [lv_recv]; decide
      · dsimp only [lv]; decide)

/-- The barrier may be waited on owing the receive credits only. -/
theorem mayWait_bar (c : Dev nD) : (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by obtain ⟨d, k, rfl⟩ := O₃_pos hg; exact Finset.mem_singleton_self _)
    (fun p hp => by rw [Finset.mem_singleton.mp hp]; exact Nat.le_refl 1)
    (fun g u hg => by obtain ⟨d, k, rfl⟩ := O₃_pos hg; rw [lv_recv]; decide)

theorem O₃_le (c : Dev nD) (g : GSem nD τ sig) (u : Unit) (h : 0 < O₃ c g u) : 0 < O₀ c g u := by
  unfold O₀ O₁ O₂
  simp only [Pi.add_apply, Finsupp.add_apply] at *
  omega

theorem mayWait_copy (c : Dev nD) (j : Fin 2) : (levAts L lv : sProp 𝕄) ⊢ MayWait (c : Thread nD τ) (.dma (copyQ j)) () (O₃ c) :=
  mayWait_low c _ (by rw [copyQ_val]; omega) _ (O₃_le c)

end Cert.MoeProof

end
-- ==== Proof.Moves.lean ====
/- The stretches the kernel's body is made of, each executed once: bringing an expert's weights in and converting them,
   reading the operands of one partial result, sending a partial result, waiting for one, and waiting for a send. -/
module

public import proofs.«01_k».proof.Proof.Protocol

@[expose] public section

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What is known of every cell: its invariant and that round 0 is reached -/

def records (K : Dev nD × Fin 7 → ℕ) : sProp 𝕄 :=
  iprop((bigSep Finset.univ fun ck : Dev nD × Fin 7 => cellInv ER (ringRd m) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) : records m K ⊢ cellInv ER (ringRd m) (K ck) (kcell ck) := by
  unfold records
  exact (BI.sep_and.trans and_elimL).trans (bigSep_elim (Φ := fun ck => cellInv ER (ringRd m) (K ck) (kcell ck)) (Finset.mem_univ ck))
theorem reached_at (K : Dev nD × Fin 7 → ℕ) (ck : Dev nD × Fin 7) : records m K ⊢ reached ER (kcell ck) 0 := by
  unfold records
  exact (BI.sep_and.trans and_elimR).trans (bigSep_elim (Φ := fun ck => reached ER (kcell ck) 0) (Finset.mem_univ ck))

/-- The number of a send cell and of a receive cell among the seven. -/
def sIx (k : Fin 3) : Fin 7 := ⟨1 + k.val, by omega⟩
def rIx (k : Fin 3) : Fin 7 := ⟨4 + k.val, by omega⟩
theorem csem_s : ∀ k : Fin 3, csem (sIx k) = .dma (sendQ k) := by decide
theorem csem_r : ∀ k : Fin 3, csem (rIx k) = .dma (recvQ k) := by decide
theorem kcell_s (c : Dev nD) (k : Fin 3) : kcell (c, sIx k) = sendCell c k := congrArg (Prod.mk (c : Thread nD τ)) (csem_s k)
theorem kcell_r (c : Dev nD) (k : Fin 3) : kcell (c, rIx k) = recvCell c k := congrArg (Prod.mk (c : Thread nD τ)) (csem_r k)

theorem inv_s (K : Dev nD × Fin 7 → ℕ) (c : Dev nD) (k : Fin 3) : records m K ⊢ cellInv ER (ringRd m) (K (c, sIx k)) (sendCell c k) := by
  have h := inv_at m K (c, sIx k); rwa [kcell_s] at h
theorem inv_r (K : Dev nD × Fin 7 → ℕ) (c : Dev nD) (k : Fin 3) : records m K ⊢ cellInv ER (ringRd m) (K (c, rIx k)) (recvCell c k) := by
  have h := inv_at m K (c, rIx k); rwa [kcell_r] at h
theorem reached_s (K : Dev nD × Fin 7 → ℕ) (c : Dev nD) (k : Fin 3) : records m K ⊢ reached ER (sendCell c k) 0 := by
  have h := reached_at m K (c, sIx k); rwa [kcell_s] at h
theorem reached_r (K : Dev nD × Fin 7 → ℕ) (c : Dev nD) (k : Fin 3) : records m K ⊢ reached ER (recvCell c k) 0 := by
  have h := reached_at m K (c, rIx k); rwa [kcell_r] at h

/-- What the core owes, whatever it has waited for. -/
def owing (c : Dev nD) (O : CellTallies nD τ sig Unit) : sProp 𝕄 := iprop(∃ W, owes (c : Thread nD τ) O W)

/-! ## The local copies of the experts' weights -/

/-- The credit of one expert's weights. -/
abbrev NW : ℕ := ((stgSlot 0).squeeze S1024x1024 squeezes_S1x1024x1024_S1024x1024).view.dmaCredit
theorem NW_pos : 0 < NW := View.dmaCredit_pos _ (by decide)

/-- The two copies in flight each read half the share of the weights. -/
def half : Fin 2 → PosShare TreeShare
  | 0 => fullShare.left
  | 1 => fullShare.right

abbrev wPts (c : Dev nD) (q : PosShare TreeShare) : sProp 𝕄 := ((c : Thread nD τ).loc main_arg3) ↦{q} m ((c : Thread nD τ).loc main_arg3)

/-- Staging slot `j` at `X`, with what a copy into it needs. -/
def held (c : Dev nD) (j : Fin 2) (X : Vec F S1x1024x1024 .f32) : sProp 𝕄 :=
  iprop(owns (c : Thread nD τ) (stgSlot j) fullShare X ∗ wPts m c (half j) ∗ semVal ((c : Thread nD τ), .dma (copyQ j)) 0)
/-- Staging slot `j` under a copy of expert `e`'s weights. -/
def busy (c : Dev nD) (j : Fin 2) (e : Fin 8) : sProp 𝕄 :=
  fetching (U := UU) (c : Thread nD τ) (wSlot e) (stgSlot j) (copyQ j) NW (half j) (m ((c : Thread nD τ).loc main_arg3))

variable (c : Dev nD) {α : Type}

abbrev sqW (M : Memref sig .tc .vmem S1x1024x1024 .f32) : Memref sig .tc .vmem S1024x1024 .f32 := M.squeeze S1024x1024 squeezes_S1x1024x1024_S1024x1024
abbrev sqH (M : Memref sig .tc .hbm S1x1024x1024 .f32) : Memref sig .tc .hbm S1024x1024 .f32 := M.squeeze S1024x1024 squeezes_S1x1024x1024_S1024x1024
abbrev sqC (M : Memref sig .tc .vmem S1x512x1024 .bf16) : Memref sig .tc .vmem S512x1024 .bf16 := M.squeeze S512x1024 squeezes_S1x512x1024_S512x1024

/-- Issuing the copy of expert `e`'s weights into staging slot `j`. -/
theorem wp_start_copy (j : Fin 2) (e : Fin 8) {X : Vec F S1x1024x1024 .f32} {Q : α → sProp 𝕄}
    {hsrc : (sqH (wSlot e)).view.WordExact} {hdst : (sqW (stgSlot j)).view.WordExact}
    {hsem : DmaTarget.Typed .hbm (.dma (copyQ j)) (.here (sqW (stgSlot j)) : DmaTarget nD τ sig .tc .vmem S1024x1024 .f32)}
    {k : PUnit → Prog (TpuEff nD τ sig (Elt F) Λ₀ .tc) α} :
    held m c j X
      ⊢ iprop((busy m c j e -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (sqH (wSlot e)) (.here (sqW (stgSlot j))) (.dma (copyQ j)) hsrc hdst hsem) k) Q) := by
  unfold held busy
  iintro ⟨Hd, Hw, Hv⟩ Hk
  iapply (wp_fetch (U := UU) 𝒱₀ (c : Thread nD τ) none (A := wSlot e) (D := stgSlot j) squeezes_S1x1024x1024_S1024x1024 NW rfl NW_pos) $$ [Hd Hw Hv]
  · isplitl [Hw]; · iexact Hw
    isplitl [Hd] <;> iassumption
  iexact Hk

/-- Waiting for it. -/
theorem wp_end_copy (j : Fin 2) (e : Fin 8) {Q : α → sProp 𝕄} {srcw : Memref sig .tc .hbm S1024x1024 .f32}
    {hsrc : srcw.view.WordExact} {hdst : (sqW (stgSlot j)).view.WordExact}
    {k : PUnit → Prog (TpuEff nD τ sig (Elt F) Λ₀ .tc) α} :
    iprop(busy m c j e ∗ owing c (O₃ c) ∗ levAts L lv)
      ⊢ iprop((iprop(held m c j (slab m c e) ∗ owing c (O₃ c)) -∗ wp frame (wpE (defs₀ (F := F)) 𝒱₀ (c : Thread nD τ) none) Set.univ (k ⟨⟩) Q)
        -∗ wp frame (wpE (defs₀ (F := F)) 𝒱₀ (c : Thread nD τ) none) Set.univ
          (.op (.waitDma2 (copyQ j) srcw (sqW (stgSlot j)) hsrc hdst) k) Q) := by
  unfold held busy owing
  iintro ⟨Hb, ⟨%W, HO⟩, Hl⟩ Hk
  ihave Hmw := (mayWait_copy (F := F) c j) $$ Hl
  iapply (wp_fetch_wait (U := UU) 𝒱₀ (c : Thread nD τ) none (A := wSlot e) (D := stgSlot j) (srcw := srcw) (dstw := sqW (stgSlot j)) (hsrc := hsrc) (hdst := hdst) NW rfl) $$ [Hb HO Hmw]
  · isplitl [Hb]; · iexact Hb
    isplitl [HO] <;> iassumption
  iintro ⟨Hd, Hw, Hv, HO⟩
  iapply Hk
  isplitr [HO]
  · isplitl [Hd]; · iexact Hd
    isplitl [Hw] <;> iassumption
  · iexists _; iexact HO

/-- Slot `e` of the converted weights, at anything. -/
def ewAny (e : Fin 8) : sProp 𝕄 := iprop(∃ X, owns (c : Thread nD τ) (ewSlot e) fullShare X)
/-- Slot `e` of the converted weights, converted. -/
def ewAt (e : Fin 8) : sProp 𝕄 := owns (c : Thread nD τ) (ewSlot e) fullShare (ew m c e)

/-- Expert `e`'s weights, under way into staging slot `j`, awaited and converted. -/
theorem wp_convert (j : Fin 2) (e : Fin 8) {Q : α → sProp 𝕄} {srcw : Memref sig .tc .hbm S1024x1024 .f32}
    {hsrc : srcw.view.WordExact} {hdst : (sqW (stgSlot j)).view.WordExact}
    {hl1 : stgM.view.LoadsAt (stgR j).toLoadRect} {hl2 : ewM.view.LoadsAt (exR e).toLoadRect}
    {hx : (ewM.access (exR e)).Stores Finset.univ} {hm : Finset.univ = Finset.univ ∨ ∀ a, (exR e).stride a = 1}
    {P : Vec F S1x1024x1024 .f32 → FVec F S1x1024x1024 .bf16} (hP : P = k0_pay14)
    {k : Vec F S1x1024x1024 .f32 → Prog (TpuEff nD τ sig (Elt F) Λ₀ .tc) α} :
    iprop(busy m c j e ∗ ewAny (F := F) c e ∗ owing c (O₃ c) ∗ levAts L lv)
      ⊢ iprop((iprop(held m c j (slab m c e) ∗ ewAt m c e ∗ owing c (O₃ c))
          -∗ wp frame (wpE (defs₀ (F := F)) 𝒱₀ (c : Thread nD τ) none) Set.univ (k (slab m c e)) Q)
        -∗ wp frame (wpE (defs₀ (F := F)) 𝒱₀ (c : Thread nD τ) none) Set.univ
          (.op (.waitDma2 (copyQ j) srcw (sqW (stgSlot j)) hsrc hdst) fun _ =>
           .op (.load stgM (stgR j).toLoadRect hl1) fun v =>
           .op (.load ewM (exR e).toLoadRect hl2) fun _ =>
           .op (.store ewM (exR e) (P v) Finset.univ hx hm) fun _ => k v) Q) := by
  subst hP
  unfold ewAny ewAt
  iintro ⟨Hb, ⟨%X, He⟩, HO, Hl⟩ Hk
  iapply (wp_end_copy m c j e) $$ [Hb HO Hl]
  · isplitl [Hb]; · iexact Hb
    isplitl [HO] <;> iassumption
  unfold held
  iintro ⟨⟨Hd, Hw⟩, HO⟩
  iapply (wp_load_owns 𝒱₀ (c : Thread nD τ) none (m := stgM) (r := stgR j) (fun _ => rfl)) $$ Hd
  iintro Hd
  iapply (wp_load_owns 𝒱₀ (c : Thread nD τ) none (m := ewM) (r := exR e) (fun _ => rfl)) $$ He
  iintro He
  iapply (wp_store_owns 𝒱₀ (c : Thread nD τ) none (m := ewM) (r := exR e) (fun _ => rfl)) $$ He
  iintro He
  iapply Hk
  isplitr [He HO]
  · isplitl [Hd] <;> iassumption
  · isplitl [He]; · iexact He
    iexact HO

/-! ## The operands of one partial result -/

def xPts : sProp 𝕄 := ((c : Thread nD τ).loc cc0_scratch1) ↦{fullShare} xb m c
def gPts : sProp 𝕄 := ((c : Thread nD τ).loc cc0_scratch0) ↦{fullShare} gates m c
def allEw : sProp 𝕄 :=
  iprop(ewAt m c 0 ∗ ewAt m c 1 ∗ ewAt m c 2 ∗ ewAt m c 3 ∗ ewAt m c 4 ∗ ewAt m c 5 ∗ ewAt m c 6 ∗ ewAt m c 7)

theorem wp_load_x {off : Fin 2 → ℕ} {inb : ∀ a, off a + S512x1024.size a ≤ S2048x1024.size a} {Q : α → sProp 𝕄}
    {hl : xM.view.LoadsAt (Rect.unit (s := S2048x1024) off S512x1024.size inb).toLoadRect}
    {k : Vec F S512x1024 .bf16 → Prog (TpuEff nD τ sig (Elt F) Λ₀ .tc) α} :
    xPts m c ⊢ iprop((xPts m c -∗ wp frame (wpE (defs₀ (F := F)) 𝒱₀ (c : Thread nD τ) none) Set.univ (k (xAt m c off inb)) Q)
      -∗ wp frame (wpE (defs₀ (F := F)) 𝒱₀ (c : Thread nD τ) none) Set.univ
        (.op (.load xM (Rect.unit (s := S2048x1024) off S512x1024.size inb).toLoadRect hl) k) Q) :=
  by
  have e : xM.view.readAt (Elt F) (Rect.unit (s := S2048x1024) off S512x1024.size inb).toLoadRect (xb m c) = xAt m c off inb := funext fun i => rfl
  rw [← e]
  exact wp_load 𝒱₀ (c : Thread nD τ) none Set.univ (m := xM) (r := (Rect.unit (s := S2048x1024) off S512x1024.size inb).toLoadRect) (S := Finset.univ) (f := xb m c) (Finset.subset_univ _)

theorem wp_load_g {off : Fin 2 → ℕ} {inb : ∀ a, off a + S512x8.size a ≤ S2048x8.size a} {Q : α → sProp 𝕄}
    {hl : gM.view.LoadsAt (Rect.unit (s := S2048x8) off S512x8.size inb).toLoadRect}
    {k : Vec F S512x8 .f32 → Prog (TpuEff nD τ sig (Elt F) Λ₀ .tc) α} :
    gPts m c ⊢ iprop((gPts m c -∗ wp frame (wpE (defs₀ (F := F)) 𝒱₀ (c : Thread nD τ) none) Set.univ (k (gAt m c off inb)) Q)
      -∗ wp frame (wpE (defs₀ (F := F)) 𝒱₀ (c : Thread nD τ) none) Set.univ
        (.op (.load gM (Rect.unit (s := S2048x8) off S512x8.size inb).toLoadRect hl) k) Q) :=
  by
  have e : gM.view.readAt (Elt F) (Rect.unit (s := S2048x8) off S512x8.size inb).toLoadRect (gates m c) = gAt m c off inb := funext fun i => rfl
  rw [← e]
  exact wp_load 𝒱₀ (c : Thread nD τ) none Set.univ (m := gM) (r := (Rect.unit (s := S2048x8) off S512x8.size inb).toLoadRect) (S := Finset.univ) (f := gates m c) (Finset.subset_univ _)

theorem wp_load_ew (e : Fin 8) {Q : α → sProp 𝕄} {hl : ewM.view.LoadsAt (exR e).toLoadRect}
    {k : Vec F S1x1024x1024 .bf16 → Prog (TpuEff nD τ sig (Elt F) Λ₀ .tc) α} :
    ewAt m c e ⊢ iprop((ewAt m c e -∗ wp frame (wpE (defs₀ (F := F)) 𝒱₀ (c : Thread nD τ) none) Set.univ (k (ew m c e)) Q)
      -∗ wp frame (wpE (defs₀ (F := F)) 𝒱₀ (c : Thread nD τ) none) Set.univ (.op (.load ewM (exR e).toLoadRect hl) k) Q) :=
  wp_load_owns 𝒱₀ (c : Thread nD τ) none (m := ewM) (r := exR e) (fun _ => rfl)

/-- The rows, the gate values and the eight experts' weights one partial result is computed from. -/
theorem wp_operands {off : Fin 2 → ℕ} {inb : ∀ a, off a + S512x1024.size a ≤ S2048x1024.size a}
    {off' : Fin 2 → ℕ} {inb' : ∀ a, off' a + S512x8.size a ≤ S2048x8.size a} {Q : α → sProp 𝕄}
    {hlx : xM.view.LoadsAt (Rect.unit (s := S2048x1024) off S512x1024.size inb).toLoadRect}
    {hlg : gM.view.LoadsAt (Rect.unit (s := S2048x8) off' S512x8.size inb').toLoadRect}
    {h0 : ewM.view.LoadsAt (exR 0).toLoadRect} {h1 : ewM.view.LoadsAt (exR 1).toLoadRect} {h2 : ewM.view.LoadsAt (exR 2).toLoadRect}
    {h3 : ewM.view.LoadsAt (exR 3).toLoadRect} {h4 : ewM.view.LoadsAt (exR 4).toLoadRect} {h5 : ewM.view.LoadsAt (exR 5).toLoadRect}
    {h6 : ewM.view.LoadsAt (exR 6).toLoadRect} {h7 : ewM.view.LoadsAt (exR 7).toLoadRect}
    {k : Vec F S512x1024 .bf16 → Vec F S512x8 .f32 → Vec F S1x1024x1024 .bf16 → Vec F S1x1024x1024 .bf16 → Vec F S1x1024x1024 .bf16
      → Vec F S1x1024x1024 .bf16 → Vec F S1x1024x1024 .bf16 → Vec F S1x1024x1024 .bf16 → Vec F S1x1024x1024 .bf16
      → Vec F S1x1024x1024 .bf16 → Prog (TpuEff nD τ sig (Elt F) Λ₀ .tc) α} :
    iprop(xPts m c ∗ gPts m c ∗ allEw m c)
      ⊢ iprop((iprop(xPts m c ∗ gPts m c ∗ allEw m c)
          -∗ wp frame (wpE (defs₀ (F := F)) 𝒱₀ (c : Thread nD τ) none) Set.univ
            (k (xAt m c off inb) (gAt m c off' inb') (ew m c 0) (ew m c 1) (ew m c 2) (ew m c 3) (ew m c 4) (ew m c 5) (ew m c 6) (ew m c 7)) Q)
        -∗ wp frame (wpE (defs₀ (F := F)) 𝒱₀ (c : Thread nD τ) none) Set.univ
          (.op (.load xM (Rect.unit (s := S2048x1024) off S512x1024.size inb).toLoadRect hlx) fun x =>
           .op (.load gM (Rect.unit (s := S2048x8) off' S512x8.size inb').toLoadRect hlg) fun g =>
           .op (.load ewM (exR 0).toLoadRect h0) fun e0 => .op (.load ewM (exR 1).toLoadRect h1) fun e1 =>
           .op (.load ewM (exR 2).toLoadRect h2) fun e2 => .op (.load ewM (exR 3).toLoadRect h3) fun e3 =>
           .op (.load ewM (exR 4).toLoadRect h4) fun e4 => .op (.load ewM (exR 5).toLoadRect h5) fun e5 =>
           .op (.load ewM (exR 6).toLoadRect h6) fun e6 => .op (.load ewM (exR 7).toLoadRect h7) fun e7 =>
           k x g e0 e1 e2 e3 e4 e5 e6 e7) Q) := by
  unfold allEw
  iintro ⟨Hx, Hg, H0, H1, H2, H3, H4, H5, H6, H7⟩ Hk
  iapply (wp_load_x m c) $$ Hx; iintro Hx
  iapply (wp_load_g m c) $$ Hg; iintro Hg
  iapply (wp_load_ew m c 0) $$ H0; iintro H0
  iapply (wp_load_ew m c 1) $$ H1; iintro H1
  iapply (wp_load_ew m c 2) $$ H2; iintro H2
  iapply (wp_load_ew m c 3) $$ H3; iintro H3
  iapply (wp_load_ew m c 4) $$ H4; iintro H4
  iapply (wp_load_ew m c 5) $$ H5; iintro H5
  iapply (wp_load_ew m c 6) $$ H6; iintro H6
  iapply (wp_load_ew m c 7) $$ H7; iintro H7
  iapply Hk
  isplitl [Hx]; · iexact Hx
  isplitl [Hg]; · iexact Hg
  isplitl [H0]; · iexact H0
  isplitl [H1]; · iexact H1
  isplitl [H2]; · iexact H2
  isplitl [H3]; · iexact H3
  isplitl [H4]; · iexact H4
  isplitl [H5]; · iexact H5
  isplitl [H6] <;> iassumption

/-! ## The exchange -/

variable (K : Dev nD × Fin 7 → ℕ)

/-- Receive slot `k` of device `d`, at anything. -/
def recvAny (d : Dev nD) (k : Fin 3) : sProp 𝕄 := iprop(∃ X, owns (d : Thread nD τ) (recvSlot k) fullShare X)
/-- Send slot `k` of device `d`, at anything. -/
def sendAny (d : Dev nD) (k : Fin 3) : sProp 𝕄 := iprop(∃ X, owns (d : Thread nD τ) (sendSlot k) fullShare X)

/-- The signal to the device `d + 1` places on: receive slot `d` handed over. -/
theorem wp_signal_slot (d : Fin 3) (n : Dev nD) (hn : n = sh (d.val + 1) c) {w : ℕ} (hw : w = 1) (O : CellTallies nD τ sig Unit)
    {Q : α → sProp 𝕄} {k : PUnit → Prog (TpuEff nD τ sig (Elt F) Λ₀ .tc) α} :
    iprop(records m K ∗ recvAny (F := F) c d ∗ dutyTok ER (barCell (sh (d.val + 1) c)) 0 d
        ∗ owing c (O + tallyAt (barCell (sh (d.val + 1) c)) () 1))
      ⊢ iprop((owing c O -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) barS w) k) Q) := by
  subst hn hw
  unfold owing recvAny
  iintro ⟨#HR, Hs, Ht, ⟨%W, HO⟩⟩ Hk
  ihave #HI := (inv_at m K (sh (d.val + 1) c, 0)) $$ HR
  ihave #Hb := (reached_at m K (sh (d.val + 1) c, 0)) $$ HR
  ihave #Hr := (reached_r m K c d) $$ HR
  iapply (Rounds.wp_signal 𝒱₀ ER (ringRd m) (c : Thread nD τ) none (dst := (sh (d.val + 1) c : Thread nD τ)) (κ := K (sh (d.val + 1) c, 0))
      (d := d) (by rw [duties_bar]; exact Finset.mem_univ _) (amount_bar m (sh (d.val + 1) c) d) () O rfl) $$ [HO Ht Hs]
  · isplitr; · iexact HI
    isplitl [HO]; · iexact HO
    isplitl [Ht]; · iexact Ht
    isplitl [Hs]
    · rw [payload_bar]; unfold barPay
      rw [show sh (3 - d.val) (sh (d.val + 1) c) = c by rw [sh_sh, show d.val + 1 + (3 - d.val) = 4 by omega, sh_four]]
      isplitl [Hs]; · iexact Hs
      iexact Hr
    · iexact Hb
  iintro HO
  iapply Hk
  iexists W; iexact HO

/-- The wait on its own barrier: the slots it will write are handed over. -/
theorem wp_wait_bar {w : ℕ} (hw : w = 3) {Q : α → sProp 𝕄} {k : PUnit → Prog (TpuEff nD τ sig (Elt F) Λ₀ .tc) α} :
    iprop(records m K ∗ cred (tallyAt (barCell c) () 3) ∗ levAts L lv ∗ atPos ER (barCell c) 0 ∅ 0 ∗ owing c (O₃ c))
      ⊢ iprop((iprop(atPos ER (barCell c) 1 ∅ 0 ∗ owing c (O₃ c) ∗ recvAny (F := F) (sh 3 c) 0 ∗ recvAny (F := F) (sh 2 c) 1 ∗ recvAny (F := F) (sh 1 c) 2)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS w) k) Q) := by
  subst hw
  unfold owing
  iintro ⟨#HR, Hc, Hl, Ha, ⟨%W, HO⟩⟩ Hk
  ihave #HI := (inv_at m K (c, 0)) $$ HR
  ihave Hmw := (mayWait_bar (F := F) c) $$ Hl
  iapply (Rounds.wp_wait_rest_token 𝒱₀ ER (ringRd m) (c : Thread nD τ) none (κ := K (c, 0))
      (wpE_semWait_eq 𝒱₀ (c : Thread nD τ) none Set.univ) (Set.mem_univ _) () (O := O₃ c) (W := W) (R := 0) (m := 0) (T := ∅)
      (by rw [expect_bar])) $$ [Hc HO Hmw Ha]
  · isplitr; · iexact HI
    isplitl [Hc]; · iexact Hc
    isplitl [HO]; · iexact HO
    isplitl [Hmw]; · iexact Hmw
    iexact Ha
  iintro ⟨HO, Ha, -, Hp⟩
  ihave Hp := (Entails.of_eq (rest_bar m c)) $$ Hp
  unfold barPay
  icases Hp with ⟨⟨H0, -⟩, ⟨H1, -⟩, H2, -⟩
  iapply Hk
  isplitl [Ha]; · iexact Ha
  isplitl [HO]; · iexists _; iexact HO
  unfold recvAny
  isplitl [H0]; · iexact H0
  isplitl [H1]; · iexact H1
  iexact H2

theorem set_sqC (M : Memref sig .tc .vmem S1x512x1024 .bf16) : (sqC M).view.set = M.view.set := View.set_reshape _ _

theorem amount_slot (k : Fin 3) : (sqC (recvSlot k)).view.amount (.dma (recvQ k)) = N := rfl

theorem sent_payload (k : Fin 3) (f : Buf (Elt F) ((sendSlot k).view.loc (c : Thread nD τ))) (hf : (sendSlot k).view.read (Elt F) f = sent m c k) :
    (((sqC (sendSlot k)).view.loc (c : Thread nD τ)) ↦[(sqC (sendSlot k)).view.set]{fullShare} f : sProp 𝕄)
      ⊢ (ringRd (F := F) m).payload (sendCell c k) 0 0 := by
  rw [payload_send]; unfold sendPay owns
  iintro H; iexists f; isplitr; · (ipureintro; exact hf)
  iapply (Entails.of_eq (congrArg (fun S => ((sendSlot k).view.loc (c : Thread nD τ) ↦[S]{fullShare} f : sProp 𝕄)) (set_sqC (sendSlot k)))); iexact H

theorem landed_payload (k : Fin 3) (f : Buf (Elt F) ((sendSlot k).view.loc (c : Thread nD τ))) (hf : (sendSlot k).view.read (Elt F) f = sent m c k)
    (g : Buf (Elt F) ((recvSlot k.rev).view.loc (sh (k.val + 1) c : Thread nD τ))) :
    (((sqC (recvSlot k.rev)).view.loc (sh (k.val + 1) c : Thread nD τ)) ↦[(sqC (recvSlot k.rev)).view.set]{fullShare}
        (sqC (recvSlot k.rev)).view.write (Elt F) g ((sqC (sendSlot k)).view.read (Elt F) f) Finset.univ : sProp 𝕄)
      ⊢ (ringRd (F := F) m).payload (recvCell (sh (k.val + 1) c) k.rev) 0 0 := by
  rw [payload_recv]; unfold recvPay owns
  rw [landed_sent]
  iintro H; iexists _; isplitr
  rotate_left
  · iapply (Entails.of_eq (congrArg (fun S => ((recvSlot k.rev).view.loc (sh (k.val + 1) c : Thread nD τ) ↦[S]{fullShare}
      ((sqC (recvSlot k.rev)).view.write (Elt F) g ((sqC (sendSlot k)).view.read (Elt F) f) Finset.univ) : sProp 𝕄)) (set_sqC (recvSlot k.rev)))); iexact H
  · ipureintro
    exact (read_write_squeezed (recvSlot k.rev).view (sendSlot k).view squeezes_S1x512x1024_S512x1024.numel_eq g f).trans hf

/-- The `k`-th transfer, to the device `k + 1` places on. -/
theorem wp_send_slot (k : Fin 3) (n : Dev nD) (hn : n = sh (k.val + 1) c) (O : CellTallies nD τ sig Unit)
    {hsc : (sqC (recvSlot k.rev)).view.ref.isScScratch = false} {hsrc : (sqC (sendSlot k)).view.WordExact} {hdst : (sqC (recvSlot k.rev)).view.WordExact}
    {hsem : DmaTarget.Typed .vmem (.dma (recvQ k.rev)) (.remote (Dev.tc n : Thread nD τ) (sqC (recvSlot k.rev)) (.dma (sendQ k)) hsc : DmaTarget nD τ sig .tc .vmem S512x1024 .bf16)}
    {Q : α → sProp 𝕄} {kt : PUnit → Prog (TpuEff nD τ sig (Elt F) Λ₀ .tc) α} :
    iprop(records m K ∗ owns (c : Thread nD τ) (sendSlot k) fullShare (sent m c k) ∗ recvAny (F := F) (sh (k.val + 1) c) k.rev
        ∗ owing c (O + owedXfer c k) ∗ dutyTok ER (sendCell c k) 0 0 ∗ dutyTok ER (recvCell (sh (k.val + 1) c) k.rev) 0 0)
      ⊢ iprop((iprop(cred (tallyAt (sendCell c k) () N) ∗ owing c O)
          -∗ wp frame (wpE (defs₀ (F := F)) 𝒱₀ (c : Thread nD τ) none) Set.univ (kt ⟨⟩) Q)
        -∗ wp frame (wpE (defs₀ (F := F)) 𝒱₀ (c : Thread nD τ) none) Set.univ
          (.op (.enqueueDma (sqC (sendSlot k)) (.remote (Dev.tc n : Thread nD τ) (sqC (recvSlot k.rev)) (.dma (sendQ k)) hsc) (.dma (recvQ k.rev)) hsrc hdst hsem) kt) Q) := by
  subst hn
  unfold owing recvAny owns
  iintro ⟨#HR, ⟨%f, %hf, Hs⟩, ⟨%X, %g, -, Hd⟩, ⟨%W, HO⟩, Ht1, Ht2⟩ Hk
  ihave #HI1 := (inv_s m K c k) $$ HR
  ihave #HI2 := (inv_r m K (sh (k.val + 1) c) k.rev) $$ HR
  ihave #Hr1 := (reached_s m K c k) $$ HR
  ihave #Hr2 := (reached_r m K (sh (k.val + 1) c) k.rev) $$ HR
  iapply (Rounds.wp_send_pointsTo 𝒱₀ ER (ringRd m) (c : Thread nD τ) none (c' := (sh (k.val + 1) c : Thread nD τ)) (src := sqC (sendSlot k)) (dst := sqC (recvSlot k.rev))
    (sS := .dma (sendQ k)) (sem := .dma (recvQ k.rev)) (hsc := hsc) (hsrc := hsrc) (hdst := hdst) (hsem := hsem) (κ₁ := K (c, sIx k)) (κ₂ := K (sh (k.val + 1) c, rIx k.rev))
    (r₁ := 0) (r₂ := 0) (d₁ := 0) (d₂ := 0) (fs := f) (fd := g) (q := fullShare)
    (by rw [duties_send]; exact Finset.mem_singleton_self _) (by rw [duties_recv]; exact Finset.mem_singleton_self _)
    () () N (amount_slot k.rev) (amount_send m c k 0) (amount_recv m (sh (k.val + 1) c) k.rev 0) O rfl (W := W)
    (sent_payload m c k f hf) (landed_payload m c k f hf g)) $$ [Hs Hd HO Ht1 Ht2]
  · isplitr; · iexact HI1
    isplitr; · iexact HI2
    isplitl [Hs]
    · iapply (Entails.of_eq (congrArg (fun S => ((sendSlot k).view.loc (c : Thread nD τ) ↦[S]{fullShare} f : sProp 𝕄)) (set_sqC (sendSlot k))).symm); iexact Hs
    isplitl [Hd]
    · iapply (Entails.of_eq (congrArg (fun S => ((recvSlot k.rev).view.loc (sh (k.val + 1) c : Thread nD τ) ↦[S]{fullShare} g : sProp 𝕄)) (set_sqC (recvSlot k.rev))).symm); iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- The wait for receive slot `s`, and the load of what has landed there. -/
theorem wp_recv_slot (s : Fin 3) {srcw : Memref sig .tc .vmem S512x1024 .bf16} {hsrc : srcw.view.WordExact} {hdst : (sqC (recvSlot s)).view.WordExact}
    {hl : recvM.view.LoadsAt (slotR s).toLoadRect} {Q : α → sProp 𝕄} {k : Vec F S1x512x1024 .bf16 → Prog (TpuEff nD τ sig (Elt F) Λ₀ .tc) α} :
    iprop(records m K ∗ cred (tallyAt (recvCell c s) () N) ∗ atPos ER (recvCell c s) 0 ∅ 0 ∗ owing c 0)
      ⊢ iprop((iprop(atPos ER (recvCell c s) 1 ∅ 0 ∗ owing c 0 ∗ recvAny (F := F) c s)
          -∗ wp frame (wpE (defs₀ (F := F)) 𝒱₀ (c : Thread nD τ) none) Set.univ (k (landed m c s)) Q)
        -∗ wp frame (wpE (defs₀ (F := F)) 𝒱₀ (c : Thread nD τ) none) Set.univ
          (.op (.waitDma2 (recvQ s) srcw (sqC (recvSlot s)) hsrc hdst) fun _ => .op (.load recvM (slotR s).toLoadRect hl) k) Q) := by
  unfold owing recvAny
  iintro ⟨#HR, Hc, Ha, ⟨%W, HO⟩⟩ Hk
  ihave #HI := (inv_r m K c s) $$ HR
  iapply (Rounds.wp_wait_rest_token 𝒱₀ ER (ringRd m) (c : Thread nD τ) none (κ := K (c, rIx s))
      (wpE_waitDma2_eq 𝒱₀ (c : Thread nD τ) none Set.univ) (Set.mem_univ _) () (O := 0) (W := W) (R := 0) (m := 0) (T := ∅)
      (by rw [Nat.zero_add, expect_recv])) $$ [Hc HO Ha]
  · isplitr; · iexact HI
    isplitl [Hc]; · iexact Hc
    isplitl [HO]; · iexact HO
    isplitr; · rw [MayWait_zero]; iempintro
    iexact Ha
  iintro ⟨HO, Ha, -, Hp⟩
  ihave Hp := (Entails.of_eq (rest_recv m c s)) $$ Hp
  unfold recvPay
  iapply (wp_load_owns 𝒱₀ (c : Thread nD τ) none (m := recvM) (r := slotR s) (fun _ => rfl)) $$ Hp
  iintro Hp
  iapply Hk
  isplitl [Ha]; · iexact Ha
  isplitl [HO]; · iexists _; iexact HO
  iexists _; iexact Hp

/-- The wait for the `k`-th transfer to have read its slot. -/
theorem wp_sent_slot (s : Fin 3) {srcw : Memref sig .tc .vmem S512x1024 .bf16} {hsrc : srcw.view.WordExact} {hdst : (sqC (sendSlot s)).view.WordExact}
    {Q : α → sProp 𝕄} {k : PUnit → Prog (TpuEff nD τ sig (Elt F) Λ₀ .tc) α} :
    iprop(records m K ∗ cred (tallyAt (sendCell c s) () N) ∗ atPos ER (sendCell c s) 0 ∅ 0 ∗ owing c 0)
      ⊢ iprop((iprop(atPos ER (sendCell c s) 1 ∅ 0 ∗ owing c 0 ∗ sendAny (F := F) c s)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.waitDma2 (sendQ s) srcw (sqC (sendSlot s)) hsrc hdst) k) Q) := by
  unfold owing sendAny
  iintro ⟨#HR, Hc, Ha, ⟨%W, HO⟩⟩ Hk
  ihave #HI := (inv_s m K c s) $$ HR
  iapply (Rounds.wp_wait_rest_token 𝒱₀ ER (ringRd m) (c : Thread nD τ) none (κ := K (c, sIx s))
      (wpE_waitDma2_eq 𝒱₀ (c : Thread nD τ) none Set.univ) (Set.mem_univ _) () (O := 0) (W := W) (R := 0) (m := 0) (T := ∅)
      (by rw [Nat.zero_add, expect_send])) $$ [Hc HO Ha]
  · isplitr; · iexact HI
    isplitl [Hc]; · iexact Hc
    isplitl [HO]; · iexact HO
    isplitr; · rw [MayWait_zero]; iempintro
    iexact Ha
  iintro ⟨HO, Ha, -, Hp⟩
  ihave Hp := (Entails.of_eq (rest_send m c s)) $$ Hp
  unfold sendPay
  iapply Hk
  isplitl [Ha]; · iexact Ha
  isplitl [HO]; · iexists _; iexact HO
  iexists _; iexact Hp

/-- A send slot read and overwritten. -/
theorem wp_put_slot (s : Fin 3) {v : Vec F S1x512x1024 .bf16} {hl : sendM.view.LoadsAt (slotR s).toLoadRect}
    {hx : (sendM.access (slotR s)).Stores Finset.univ} {hm : Finset.univ = Finset.univ ∨ ∀ a, (slotR s).stride a = 1}
    {Q : α → sProp 𝕄} {k : PUnit → Prog (TpuEff nD τ sig (Elt F) Λ₀ .tc) α} :
    sendAny (F := F) c s
      ⊢ iprop((owns (c : Thread nD τ) (sendSlot s) fullShare v -∗ wp frame (wpE (defs₀ (F := F)) 𝒱₀ (c : Thread nD τ) none) Set.univ (k ⟨⟩) Q)
        -∗ wp frame (wpE (defs₀ (F := F)) 𝒱₀ (c : Thread nD τ) none) Set.univ
          (.op (.load sendM (slotR s).toLoadRect hl) fun _ => .op (.store sendM (slotR s) v Finset.univ hx hm) k) Q) := by
  unfold sendAny
  iintro ⟨%X, H⟩ Hk
  iapply (wp_load_owns 𝒱₀ (c : Thread nD τ) none (m := sendM) (r := slotR s) (fun _ => rfl)) $$ H
  iintro H
  iapply (wp_store_owns 𝒱₀ (c : Thread nD τ) none (m := sendM) (r := slotR s) (fun _ => rfl)) $$ H
  iintro H
  iapply Hk; iexact H

/-- A cell past its round closes: its counter is zero and the core's again. -/
theorem close (ck : Dev nD × Fin 7) : iprop(records m K ∗ atPos ER (kcell ck) 1 ∅ 0) ⊢ iprop(|={Set.univ}=> semVal (kcell ck) 0 : sProp 𝕄) := by
  iintro ⟨#HR, Ha⟩
  ihave #HI := (inv_at m K ck) $$ HR
  iapply (Rounds.cell_close ER (ringRd m) (Set.mem_univ (K ck)) (fun h => h) (R := 0 + 1) (duties_later m (kcell ck)))
  isplitr; · iexact HI
  iexact Ha

end Cert.MoeProof

end
-- ==== Proof.Body.lean ====
/- The kernel's body, executed once on a symbolic device: from what the launch hands it to the block of the result it
   leaves. -/
module

public import proofs.«01_k».proof.Proof.Moves

@[expose] public section

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## What the body starts from and ends with -/

/-- The tokens of the duties device `c` pays: a barrier duty and a receive duty at each other device, and its own three
    send duties. -/
def payToks (c : Dev nD) : sProp 𝕄 :=
  iprop((dutyTok ER (barCell (sh 1 c)) 0 0 ∗ dutyTok ER (barCell (sh 2 c)) 0 1 ∗ dutyTok ER (barCell (sh 3 c)) 0 2)
    ∗ (dutyTok ER (recvCell (sh 1 c) 2) 0 0 ∗ dutyTok ER (recvCell (sh 2 c) 1) 0 0 ∗ dutyTok ER (recvCell (sh 3 c) 0) 0 0)
    ∗ (dutyTok ER (sendCell c 0) 0 0 ∗ dutyTok ER (sendCell c 1) 0 0 ∗ dutyTok ER (sendCell c 2) 0 0))

/-- Its positions at round `r` of its seven cells. -/
def atRound (c : Dev nD) (r : ℕ) : sProp 𝕄 :=
  iprop(atPos ER (barCell c) r ∅ 0 ∗ (atPos ER (sendCell c 0) r ∅ 0 ∗ atPos ER (sendCell c 1) r ∅ 0 ∗ atPos ER (sendCell c 2) r ∅ 0)
    ∗ atPos ER (recvCell c 0) r ∅ 0 ∗ atPos ER (recvCell c 1) r ∅ 0 ∗ atPos ER (recvCell c 2) r ∅ 0)

/-- Its seven cells at zero. -/
def zeros (c : Dev nD) : sProp 𝕄 :=
  iprop(semVal (barCell c) 0 ∗ (semVal (sendCell c 0) 0 ∗ semVal (sendCell c 1) 0 ∗ semVal (sendCell c 2) 0)
    ∗ semVal (recvCell c 0) 0 ∗ semVal (recvCell c 1) 0 ∗ semVal (recvCell c 2) 0)
/-- Its two copy semaphores at zero. -/
def copyZeros (c : Dev nD) : sProp 𝕄 :=
  iprop(semVal ((c : Thread nD τ), .dma (copyQ 0)) 0 ∗ semVal ((c : Thread nD τ), .dma (copyQ 1)) 0)

/-- What the others will pay it. -/
def creds (c : Dev nD) : sProp 𝕄 :=
  iprop(cred (tallyAt (barCell c) () 3)
    ∗ cred (tallyAt (recvCell c 0) () N) ∗ cred (tallyAt (recvCell c 1) () N) ∗ cred (tallyAt (recvCell c 2) () N))

/-- Its scratch, slot by slot, at anything. -/
def stgAny (c : Dev nD) (j : Fin 2) : sProp 𝕄 := iprop(∃ X, owns (c : Thread nD τ) (stgSlot j) fullShare X)
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (stgAny c 0 ∗ stgAny c 1)
    ∗ (ewAny c 0 ∗ ewAny c 1 ∗ ewAny c 2 ∗ ewAny c 3 ∗ ewAny c 4 ∗ ewAny c 5 ∗ ewAny c 6 ∗ ewAny c 7)
    ∗ (sendAny c 0 ∗ sendAny c 1 ∗ sendAny c 2)
    ∗ (recvAny c 0 ∗ recvAny c 1 ∗ recvAny c 2))

def ghost (K : Dev nD × Fin 7 → ℕ) (c : Dev nD) : sProp 𝕄 := iprop(records m K ∗ atRound c 0 ∗ payToks c)

/-- What device `c` starts from, its scratch and staging buffers aside. -/
def start (c : Dev nD) : sProp 𝕄 :=
  iprop((∃ K, ghost m K c) ∗ copyZeros c ∗ creds c ∗ levAts L lv ∗ wPts m c fullShare)
def Φ₀ (c : Dev nD) : sProp 𝕄 := iprop(start m c ∗ scratch c)
def Φ₁ (c : Dev nD) : sProp 𝕄 := iprop(scratch c ∗ zeros c ∗ copyZeros c ∗ wPts m c fullShare)

/-- The pipeline's proof data: what each array holds at entry, what each staging buffer holds after the body, and what is
    owned and owed around it. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => rstg m c
    | ⟨2, _⟩ => istg m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_whole_stg (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Whole buffers read and written -/

theorem hz : (![0, 0] : Fin 2 → Nat) = fun _ => 0 := funext fun a => by fin_cases a <;> rfl
theorem read_stg0 (f : (cc0_stg0_0 : Ref sig .tc).ty.Contents (Elt F)) :
    (Memref.whole cc0_stg0_0 : Memref sig .tc .vmem S2048x1024 .f32).view.readAt (Elt F) (Rect.unit (s := S2048x1024) ![0, 0] S2048x1024.size inb_S2048x1024_S2048x1024_0_0).toLoadRect f = f :=
  Memref.readAt_unit_zero (Elt F) cc0_stg0_0 hz _ f
theorem read_stg1 (f : (cc0_stg1_0 : Ref sig .tc).ty.Contents (Elt F)) :
    (Memref.whole cc0_stg1_0 : Memref sig .tc .vmem S1024x32 .f32).view.readAt (Elt F) (Rect.unit (s := S1024x32) ![0, 0] S1024x32.size inb_S1024x32_S1024x32_0_0).toLoadRect f = f :=
  Memref.readAt_unit_zero (Elt F) cc0_stg1_0 hz _ f
theorem read_xM (f : (cc0_scratch1 : Ref sig .tc).ty.Contents (Elt F)) :
    xM.view.readAt (Elt F) (Rect.unit (s := S2048x1024) ![0, 0] S2048x1024.size inb_S2048x1024_S2048x1024_0_0).toLoadRect f = f :=
  Memref.readAt_unit_zero (Elt F) cc0_scratch1 hz _ f
theorem read_route0 (c : Dev nD) :
    (Memref.whole cc0_stg2_0 : Memref sig .tc .vmem S2048x2 .i32).view.readAt (Elt F) (Rect.unit (s := S2048x2) ![0, 0] S2048x1.size inb_S2048x2_S2048x1_0_0).toLoadRect (istg m c) = route0 m c :=
  funext fun i => rfl
theorem read_route1 (c : Dev nD) :
    (Memref.whole cc0_stg2_0 : Memref sig .tc .vmem S2048x2 .i32).view.readAt (Elt F) (Rect.unit (s := S2048x2) ![0, 1] S2048x1.size inb_S2048x2_S2048x1_0_1).toLoadRect (istg m c) = route1 m c :=
  funext fun i => rfl
theorem write_xM (f w : (cc0_scratch1 : Ref sig .tc).ty.Contents (Elt F)) :
    (xM.access (Rect.unit (s := S2048x1024) ![0, 0] S2048x1024.size inb_S2048x1024_S2048x1024_0_0) : View sig .tc _ _ _).write (Elt F) f w Finset.univ = w :=
  Memref.write_access_unit_zero_univ (Elt F) cc0_scratch1 hz _ f w
theorem write_gM (f w : (cc0_scratch0 : Ref sig .tc).ty.Contents (Elt F)) :
    (gM.access (Rect.unit (s := S2048x8) ![0, 0] S2048x8.size inb_S2048x8_S2048x8_0_0) : View sig .tc _ _ _).write (Elt F) f w Finset.univ = w :=
  Memref.write_access_unit_zero_univ (Elt F) cc0_scratch0 hz _ f w
theorem write_out (f w : (cc0_stg3_0 : Ref sig .tc).ty.Contents (Elt F)) :
    ((Memref.whole cc0_stg3_0 : Memref sig .tc .vmem S512x1024 .f32).access (Rect.unit (s := S512x1024) ![0, 0] S512x1024.size inb_S512x1024_S512x1024_0_0) : View sig .tc _ _ _).write (Elt F) f w Finset.univ = w :=
  Memref.write_access_unit_zero_univ (Elt F) cc0_stg3_0 hz _ f w

/-! ## The body -/

section Body

theorem xPts_eq (c : Dev nD) : (xM.view.loc (c : Thread nD τ) ↦{fullShare} k0_pay1 (xstg m c) : sProp 𝕄) = xPts m c := rfl
theorem gPts_eq (c : Dev nD) : (gM.view.loc (c : Thread nD τ) ↦{fullShare}
    k0_pay12 (Scalar.remsi (Scalar.divsi (Dev.word c) 1#32) 4#32) (k0_pay3 (route0 m c)) (k0_pay4 (route1 m c))
      (k0_pay10 (k0_pay1 (xstg m c)) (rstg m c) (route0 m c) (route1 m c)) (k0_pay11 (k0_pay1 (xstg m c)) (rstg m c) (route0 m c) (route1 m c)) : sProp 𝕄) = gPts m c := rfl
theorem owns_sent0 (c : Dev nD) : (owns (c : Thread nD τ) (sendSlot 0) fullShare
  (k0_pay30 (xAt m c (k0_off1 c) (k0_off1_inb c)) (gAt m c (k0_off2 c) (k0_off2_inb c))
    (k0_pay28 (xAt m c (k0_off1 c) (k0_off1_inb c)) (gAt m c (k0_off2 c) (k0_off2_inb c)) (k0_pay26 (xAt m c (k0_off1 c) (k0_off1_inb c)) (gAt m c (k0_off2 c) (k0_off2_inb c)) (k0_pay21 (xAt m c (k0_off1 c) (k0_off1_inb c)) (gAt m c (k0_off2 c) (k0_off2_inb c)) (k0_pay19 (xAt m c (k0_off1 c) (k0_off1_inb c)) (gAt m c (k0_off2 c) (k0_off2_inb c)) (k0_pay17 (xAt m c (k0_off1 c) (k0_off1_inb c)) (gAt m c (k0_off2 c) (k0_off2_inb c)) (k0_pay15 (xAt m c (k0_off1 c) (k0_off1_inb c)) (gAt m c (k0_off2 c) (k0_off2_inb c)) k0_pay13 (ew m c 0)) (ew m c 1)) (ew m c 2)) (ew m c 3))
      (k0_pay23 (xAt m c (k0_off1 c) (k0_off1_inb c)) (ew m c 4)) (k0_pay24 (gAt m c (k0_off2 c) (k0_off2_inb c))) (ew m c 5)) (ew m c 6)) (ew m c 7)) : sProp 𝕄) = owns (c : Thread nD τ) (sendSlot 0) fullShare (sent m c 0) := rfl
theorem owns_sent1 (c : Dev nD) : (owns (c : Thread nD τ) (sendSlot 1) fullShare
  (k0_pay33 (xAt m c (k0_off3 c 1#32) (k0_off3_inb c 0)) (gAt m c (k0_off4 c 1#32) (k0_off4_inb c 0)) (k0_pay31 (xAt m c (k0_off3 c 1#32) (k0_off3_inb c 0)) (gAt m c (k0_off4 c 1#32) (k0_off4_inb c 0)) (ew m c 0) (ew m c 1) (ew m c 2) (ew m c 3)) (k0_pay32 (xAt m c (k0_off3 c 1#32) (k0_off3_inb c 0)) (gAt m c (k0_off4 c 1#32) (k0_off4_inb c 0)) (ew m c 4)) (ew m c 5) (ew m c 6) (ew m c 7)) : sProp 𝕄) = owns (c : Thread nD τ) (sendSlot 1) fullShare (sent m c 1) := rfl
theorem owns_sent2 (c : Dev nD) : (owns (c : Thread nD τ) (sendSlot 2) fullShare
  (k0_pay36 (xAt m c (k0_off3 c 2#32) (k0_off3_inb c 1)) (gAt m c (k0_off4 c 2#32) (k0_off4_inb c 1)) (k0_pay34 (xAt m c (k0_off3 c 2#32) (k0_off3_inb c 1)) (gAt m c (k0_off4 c 2#32) (k0_off4_inb c 1)) (ew m c 0) (ew m c 1) (ew m c 2)) (k0_pay35 (ew m c 3)) (constant S512x1024 .f32 0x00000000#32)
    (ew m c 4) (ew m c 5) (ew m c 6) (ew m c 7)) : sProp 𝕄) = owns (c : Thread nD τ) (sendSlot 2) fullShare (sent m c 2) := rfl
/-- What is owned, under a name of the same meaning. -/
theorem same (P : sProp 𝕄) : P ⊢ P := Idealize.SL.BI.Entails.refl P

variable (K : Dev nD × Fin 7 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ copyZeros c ∗ creds c ∗ levAts L lv ∗ wPts m c fullShare) ∗ scratch c ∗ owing c (O₀ c)
    ∗ stg c cc0_stg0_0 (xstg m c) ∗ stg c cc0_stg1_0 (rstg m c) ∗ stg c cc0_stg2_0 (istg m c) ∗ (∃ X, stg c cc0_stg3_0 X))
def bodyPost (c : Dev nD) : sProp 𝕄 :=
  iprop(Φ₁ m c ∗ owing c 0
    ∗ stg c cc0_stg0_0 (xstg m c) ∗ stg c cc0_stg1_0 (rstg m c) ∗ stg c cc0_stg2_0 (istg m c) ∗ stg c cc0_stg3_0 (outAt m c))

abbrev theBody : Prog (TpuEff nD τ sig (Elt F) Λ₀ .tc) PUnit :=
  cc0_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8

set_option maxHeartbeats 8000000 in
set_option maxRecDepth 65536 in
/-- The body, one rule per effect or stretch of effects in program order. -/
theorem sound_body (c : Dev nD) (Kt : PUnit → sProp 𝕄) :
    iprop(bodyPre m K c ∗ (bodyPost m c -∗ Kt ⟨⟩))
      ⊢ wp frame (wpE (defs₀ (F := F)) 𝒱₀ c none) Set.univ theBody Kt := by
  unfold theBody
  rw [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel
  simp only [semSignalWord, semWaitWord, Prog.lift, Prog.bind_op, Prog.bind_ret, Prog.pure_eq_ret, wp_deviceId]
  unfold bodyPre ghost atRound payToks copyZeros creds scratch stgAny
  iintro ⟨⟨⟨⟨#HR, ⟨HaB, ⟨HaS0, HaS1, HaS2⟩, HaR0, HaR1, HaR2⟩, ⟨HtB0, HtB1, HtB2⟩, ⟨HtR0, HtR1, HtR2⟩, HtS0, HtS1, HtS2⟩,
    ⟨Hv0, Hv1⟩, ⟨HcB, HcR0, HcR1, HcR2⟩, #Hlev, Hw⟩,
    ⟨⟨%fg, Hg⟩, ⟨%fx, Hx⟩, ⟨⟨%X0, Hs0⟩, %X1, Hs1⟩, ⟨He0, He1, He2, He3, He4, He5, He6, He7⟩, ⟨Hd0, Hd1, Hd2⟩, Hr0, Hr1, Hr2⟩,
    HO, ⟨%f0, %hf0, Ha0⟩, ⟨%f1, %hf1, Ha1⟩, ⟨%f2, %hf2, Ha2⟩, %X3, %f3, -, Ha3⟩, Hk⟩
  subst hf0 hf1 hf2
  -- the three signals
  unfold O₀
  iapply (wp_signal_slot m c K 0 _ (dev1_eq c) (by decide) (O₁ c)) $$ [Hr0 HtB0 HO]
  · isplitr; · iexact HR
    isplitl [Hr0]; · iexact Hr0
    isplitl [HtB0]; · iexact HtB0
    iexact HO
  iintro HO
  unfold O₁
  iapply (wp_signal_slot m c K 1 _ (dev2_eq c) (by decide) (O₂ c)) $$ [Hr1 HtB1 HO]
  · isplitr; · iexact HR
    isplitl [Hr1]; · iexact Hr1
    isplitl [HtB1]; · iexact HtB1
    iexact HO
  iintro HO
  unfold O₂
  iapply (wp_signal_slot m c K 2 _ (dev3_eq c) (by decide) (O₃ c)) $$ [Hr2 HtB2 HO]
  · isplitr; · iexact HR
    isplitl [Hr2]; · iexact Hr2
    isplitl [HtB2]; · iexact HtB2
    iexact HO
  iintro HO
  -- the first two copies
  ihave Hw := (pointsTo_share (PosShare.mem_left_op_right fullShare)).1 $$ Hw
  icases Hw with ⟨Hw0, Hw1⟩
  iapply (wp_start_copy m c 0 0 (X := X0)) $$ [Hs0 Hw0 Hv0]
  · unfold held
    isplitl [Hs0]; · iexact Hs0
    isplitl [Hw0]; · iexact Hw0
    iexact Hv0
  iintro Hb0
  iapply (wp_start_copy m c 1 1 (X := X1)) $$ [Hs1 Hw1 Hv1]
  · unfold held
    isplitl [Hs1]; · iexact Hs1
    isplitl [Hw1]; · iexact Hw1
    iexact Hv1
  iintro Hb1
  -- the gate values
  iapply (wp_load 𝒱₀ (c : Thread nD τ) none Set.univ (m := Memref.whole cc0_stg0_0) (Finset.subset_univ _)) $$ Ha0; iintro Ha0
  rw [read_stg0]
  iapply (wp_load 𝒱₀ (c : Thread nD τ) none Set.univ (m := xM) (Finset.subset_univ _)) $$ Hx; iintro Hx
  iapply (wp_store 𝒱₀ (c : Thread nD τ) none Set.univ (m := xM) (r := (Rect.unit (s := S2048x1024) ![0, 0] S2048x1024.size inb_S2048x1024_S2048x1024_0_0)) (Mk := Finset.univ) (Finset.subset_univ _)) $$ Hx; iintro Hx
  rw [write_xM]
  iapply (wp_load 𝒱₀ (c : Thread nD τ) none Set.univ (m := xM) (Finset.subset_univ _)) $$ Hx; iintro Hx
  rw [read_xM]
  iapply (wp_load 𝒱₀ (c : Thread nD τ) none Set.univ (m := Memref.whole cc0_stg1_0) (Finset.subset_univ _)) $$ Ha1; iintro Ha1
  rw [read_stg1]
  iapply (wp_load 𝒱₀ (c : Thread nD τ) none Set.univ (m := Memref.whole cc0_stg2_0) (Finset.subset_univ _)) $$ Ha2; iintro Ha2
  rw [read_route0]
  iapply (wp_load 𝒱₀ (c : Thread nD τ) none Set.univ (m := Memref.whole cc0_stg2_0) (Finset.subset_univ _)) $$ Ha2; iintro Ha2
  rw [read_route1]
  iapply (wp_load 𝒱₀ (c : Thread nD τ) none Set.univ (m := gM) (Finset.subset_univ _)) $$ Hg; iintro Hg
  iapply (wp_store 𝒱₀ (c : Thread nD τ) none Set.univ (m := gM) (r := (Rect.unit (s := S2048x8) ![0, 0] S2048x8.size inb_S2048x8_S2048x8_0_0)) (Mk := Finset.univ) (Finset.subset_univ _)) $$ Hg; iintro Hg
  rw [write_gM]
  ihave Hx := (Entails.of_eq (xPts_eq m c)) $$ Hx
  ihave Hg := (Entails.of_eq (gPts_eq m c)) $$ Hg
  iapply (wp_load_x m c) $$ Hx; iintro Hx
  iapply (wp_load_g m c) $$ Hg; iintro Hg
  -- expert 0
  iapply (wp_convert m c 0 0 rfl) $$ [Hb0 He0 HO]
  · isplitl [Hb0]; · iexact Hb0
    isplitl [He0]; · iexact He0
    isplitl [HO]; · iexact HO
    iexact Hlev
  iintro ⟨Hh0, He0, HO⟩
  iapply (wp_start_copy m c 0 2) $$ Hh0
  iintro Hb0
  iapply (wp_load_ew m c 0) $$ He0; iintro He0
  -- expert 1
  iapply (wp_convert m c 1 1 rfl) $$ [Hb1 He1 HO]
  · isplitl [Hb1]; · iexact Hb1
    isplitl [He1]; · iexact He1
    isplitl [HO]; · iexact HO
    iexact Hlev
  iintro ⟨Hh1, He1, HO⟩
  iapply (wp_start_copy m c 1 3) $$ Hh1
  iintro Hb1
  iapply (wp_load_ew m c 1) $$ He1; iintro He1
  -- expert 2
  iapply (wp_convert m c 0 2 rfl) $$ [Hb0 He2 HO]
  · isplitl [Hb0]; · iexact Hb0
    isplitl [He2]; · iexact He2
    isplitl [HO]; · iexact HO
    iexact Hlev
  iintro ⟨Hh0, He2, HO⟩
  iapply (wp_start_copy m c 0 4) $$ Hh0
  iintro Hb0
  iapply (wp_load_ew m c 2) $$ He2; iintro He2
  -- expert 3
  iapply (wp_convert m c 1 3 rfl) $$ [Hb1 He3 HO]
  · isplitl [Hb1]; · iexact Hb1
    isplitl [He3]; · iexact He3
    isplitl [HO]; · iexact HO
    iexact Hlev
  iintro ⟨Hh1, He3, HO⟩
  iapply (wp_start_copy m c 1 5) $$ Hh1
  iintro Hb1
  iapply (wp_load_ew m c 3) $$ He3; iintro He3
  -- expert 4
  iapply (wp_convert m c 0 4 rfl) $$ [Hb0 He4 HO]
  · isplitl [Hb0]; · iexact Hb0
    isplitl [He4]; · iexact He4
    isplitl [HO]; · iexact HO
    iexact Hlev
  iintro ⟨Hh0, He4, HO⟩
  iapply (wp_start_copy m c 0 6) $$ Hh0
  iintro Hb0
  iapply (wp_load_ew m c 4) $$ He4; iintro He4
  -- expert 5
  iapply (wp_convert m c 1 5 rfl) $$ [Hb1 He5 HO]
  · isplitl [Hb1]; · iexact Hb1
    isplitl [He5]; · iexact He5
    isplitl [HO]; · iexact HO
    iexact Hlev
  iintro ⟨Hh1, He5, HO⟩
  iapply (wp_start_copy m c 1 7) $$ Hh1
  iintro Hb1
  iapply (wp_load_ew m c 5) $$ He5; iintro He5
  -- expert 6
  iapply (wp_convert m c 0 6 rfl) $$ [Hb0 He6 HO]
  · isplitl [Hb0]; · iexact Hb0
    isplitl [He6]; · iexact He6
    isplitl [HO]; · iexact HO
    iexact Hlev
  iintro ⟨Hh0, He6, HO⟩
  iapply (wp_load_ew m c 6) $$ He6; iintro He6
  -- expert 7
  iapply (wp_convert m c 1 7 rfl) $$ [Hb1 He7 HO]
  · isplitl [Hb1]; · iexact Hb1
    isplitl [He7]; · iexact He7
    isplitl [HO]; · iexact HO
    iexact Hlev
  iintro ⟨Hh1, He7, HO⟩
  iapply (wp_load_ew m c 7) $$ He7; iintro He7
  ihave HE := (same (iprop(ewAt m c 0 ∗ ewAt m c 1 ∗ ewAt m c 2 ∗ ewAt m c 3 ∗ ewAt m c 4 ∗ ewAt m c 5 ∗ ewAt m c 6 ∗ ewAt m c 7))) $$ [He0 He1 He2 He3 He4 He5 He6 He7]
  · isplitl [He0]; · iexact He0
    isplitl [He1]; · iexact He1
    isplitl [He2]; · iexact He2
    isplitl [He3]; · iexact He3
    isplitl [He4]; · iexact He4
    isplitl [He5]; · iexact He5
    isplitl [He6]; · iexact He6
    iexact He7
  ihave Hops := (same (iprop(xPts m c ∗ gPts m c ∗ allEw m c))) $$ [Hx Hg HE]
  · isplitl [Hx]; · iexact Hx
    isplitl [Hg]; · iexact Hg
    unfold allEw; iexact HE
  -- the first partial result sent
  iapply (wp_put_slot c 0) $$ Hd0; iintro Hd0
  ihave Hd0 := (Entails.of_eq (owns_sent0 m c)) $$ Hd0
  iapply (wp_wait_bar m c K (by decide)) $$ [HcB HaB HO]
  · isplitr; · iexact HR
    isplitl [HcB]; · iexact HcB
    isplitr; · iexact Hlev
    isplitl [HaB]; · iexact HaB
    iexact HO
  iintro ⟨HaB, HO, Hn3, Hn2, Hn1⟩
  unfold O₃
  iapply (wp_send_slot m c K 0 _ (dev4_eq c) (O₄ c)) $$ [Hd0 Hn1 HO HtS0 HtR0]
  · isplitr; · iexact HR
    isplitl [Hd0]; · iexact Hd0
    isplitl [Hn1]; · iexact Hn1
    isplitl [HO]; · iexact HO
    isplitl [HtS0]; · iexact HtS0
    iexact HtR0
  iintro ⟨HcS0, HO⟩
  -- the second
  iapply (wp_operands m c) $$ Hops; iintro Hops
  iapply (wp_put_slot c 1) $$ Hd1; iintro Hd1
  ihave Hd1 := (Entails.of_eq (owns_sent1 m c)) $$ Hd1
  unfold O₄
  iapply (wp_send_slot m c K 1 _ (dev5_eq c) (O₅ c)) $$ [Hd1 Hn2 HO HtS1 HtR1]
  · isplitr; · iexact HR
    isplitl [Hd1]; · iexact Hd1
    isplitl [Hn2]; · iexact Hn2
    isplitl [HO]; · iexact HO
    isplitl [HtS1]; · iexact HtS1
    iexact HtR1
  iintro ⟨HcS1, HO⟩
  -- the third
  iapply (wp_operands m c) $$ Hops; iintro Hops
  iapply (wp_put_slot c 2) $$ Hd2; iintro Hd2
  ihave Hd2 := (Entails.of_eq (owns_sent2 m c)) $$ Hd2
  rw [show O₅ c = 0 + owedXfer c 2 from (zero_add _).symm]
  iapply (wp_send_slot m c K 2 _ (dev6_eq c) 0) $$ [Hd2 Hn3 HO HtS2 HtR2]
  · isplitr; · iexact HR
    isplitl [Hd2]; · iexact Hd2
    isplitl [Hn3]; · iexact Hn3
    isplitl [HO]; · iexact HO
    isplitl [HtS2]; · iexact HtS2
    iexact HtR2
  iintro ⟨HcS2, HO⟩
  -- its own
  iapply (wp_operands m c) $$ Hops; iintro Hops
  iapply (wp_recv_slot m c K 2) $$ [HcR2 HaR2 HO]
  · isplitr; · iexact HR
    isplitl [HcR2]; · iexact HcR2
    isplitl [HaR2]; · iexact HaR2
    iexact HO
  iintro ⟨HaR2, HO, Hr2⟩
  iapply (wp_recv_slot m c K 1) $$ [HcR1 HaR1 HO]
  · isplitr; · iexact HR
    isplitl [HcR1]; · iexact HcR1
    isplitl [HaR1]; · iexact HaR1
    iexact HO
  iintro ⟨HaR1, HO, Hr1⟩
  iapply (wp_recv_slot m c K 0) $$ [HcR0 HaR0 HO]
  · isplitr; · iexact HR
    isplitl [HcR0]; · iexact HcR0
    isplitl [HaR0]; · iexact HaR0
    iexact HO
  iintro ⟨HaR0, HO, Hr0⟩
  iapply (wp_load 𝒱₀ (c : Thread nD τ) none Set.univ (m := Memref.whole cc0_stg3_0) (Finset.subset_univ _)) $$ Ha3; iintro Ha3
  iapply (wp_store 𝒱₀ (c : Thread nD τ) none Set.univ (m := Memref.whole cc0_stg3_0) (r := (Rect.unit (s := S512x1024) ![0, 0] S512x1024.size inb_S512x1024_S512x1024_0_0)) (Mk := Finset.univ) (Finset.subset_univ _)) $$ Ha3; iintro Ha3
  rw [write_out]
  iapply (wp_sent_slot m c K 0) $$ [HcS0 HaS0 HO]
  · isplitr; · iexact HR
    isplitl [HcS0]; · iexact HcS0
    isplitl [HaS0]; · iexact HaS0
    iexact HO
  iintro ⟨HaS0, HO, Hd0⟩
  iapply (wp_sent_slot m c K 1) $$ [HcS1 HaS1 HO]
  · isplitr; · iexact HR
    isplitl [HcS1]; · iexact HcS1
    isplitl [HaS1]; · iexact HaS1
    iexact HO
  iintro ⟨HaS1, HO, Hd1⟩
  iapply (wp_sent_slot m c K 2) $$ [HcS2 HaS2 HO]
  · isplitr; · iexact HR
    isplitl [HcS2]; · iexact HcS2
    isplitl [HaS2]; · iexact HaS2
    iexact HO
  iintro ⟨HaS2, HO, Hd2⟩
  -- the cells close
  imod (close m K (c, 0)) $$ [HaB] with HzB
  · isplitr; · iexact HR
    iexact HaB
  imod (close m K (c, 1)) $$ [HaS0] with HzS0
  · isplitr; · iexact HR
    iexact HaS0
  imod (close m K (c, 2)) $$ [HaS1] with HzS1
  · isplitr; · iexact HR
    iexact HaS1
  imod (close m K (c, 3)) $$ [HaS2] with HzS2
  · isplitr; · iexact HR
    iexact HaS2
  imod (close m K (c, 4)) $$ [HaR0] with HzR0
  · isplitr; · iexact HR
    iexact HaR0
  imod (close m K (c, 5)) $$ [HaR1] with HzR1
  · isplitr; · iexact HR
    iexact HaR1
  imod (close m K (c, 6)) $$ [HaR2] with HzR2
  · isplitr; · iexact HR
    iexact HaR2
  rw [wp_ret]; imodintro
  iapply Hk
  unfold held allEw ewAt xPts gPts
  icases Hh0 with ⟨Hs0, Hw0, Hv0⟩
  icases Hh1 with ⟨Hs1, Hw1, Hv1⟩
  icases Hops with ⟨Hx, Hg, He0, He1, He2, He3, He4, He5, He6, He7⟩
  unfold bodyPost Φ₁ scratch zeros copyZeros stgAny ewAny
  isplitr [HO Ha0 Ha1 Ha2 Ha3]
  · isplitl [Hx Hg He0 He1 He2 He3 He4 He5 He6 He7 Hs0 Hs1 Hd0 Hd1 Hd2 Hr0 Hr1 Hr2]
    · isplitl [Hg]; · iexists _; iexact Hg
      isplitl [Hx]; · iexists _; iexact Hx
      isplitl [Hs0 Hs1]
      · isplitl [Hs0]; · iexists _; iexact Hs0
        iexists _; iexact Hs1
      isplitl [He0 He1 He2 He3 He4 He5 He6 He7]
      · isplitl [He0]; · iexists _; iexact He0
        isplitl [He1]; · iexists _; iexact He1
        isplitl [He2]; · iexists _; iexact He2
        isplitl [He3]; · iexists _; iexact He3
        isplitl [He4]; · iexists _; iexact He4
        isplitl [He5]; · iexists _; iexact He5
        isplitl [He6]; · iexists _; iexact He6
        iexists _; iexact He7
      isplitl [Hd0 Hd1 Hd2]
      · isplitl [Hd0]; · iexact Hd0
        isplitl [Hd1]; · iexact Hd1
        iexact Hd2
      isplitl [Hr0]; · iexact Hr0
      isplitl [Hr1]; · iexact Hr1
      iexact Hr2
    isplitl [HzB HzS0 HzS1 HzS2 HzR0 HzR1 HzR2]
    · isplitl [HzB]; · iexact HzB
      isplitl [HzS0 HzS1 HzS2]
      · isplitl [HzS0]; · iexact HzS0
        isplitl [HzS1]; · iexact HzS1
        iexact HzS2
      isplitl [HzR0]; · iexact HzR0
      isplitl [HzR1]; · iexact HzR1
      iexact HzR2
    isplitl [Hv0 Hv1]
    · isplitl [Hv0]; · iexact Hv0
      iexact Hv1
    iapply (pointsTo_share (PosShare.mem_left_op_right fullShare)).2
    isplitl [Hw0]; · iexact Hw0
    iexact Hw1
  isplitl [HO]; · iexact HO
  isplitl [Ha0]; · iexists _; isplitr; · (ipureintro; rfl)
                   iexact Ha0
  isplitl [Ha1]; · iexists _; isplitr; · (ipureintro; rfl)
                   iexact Ha1
  isplitl [Ha2]; · iexists _; isplitr; · (ipureintro; rfl)
                   iexact Ha2
  iexists _; isplitr; · (ipureintro; rfl)
  iexact Ha3

end Body

end Cert.MoeProof

end
-- ==== Proof.Slots.lean ====
/- The scratch buffers as the launch hands them over, whole, and as the kernel holds them, slot by slot. -/
module

public import proofs.«01_k».proof.Proof.Body
public import proofs.«01_k».proof.Proof.Gen.KernelIdeal.Launch

@[expose] public section

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (c : Dev nD)

/-- Part of a buffer held at anything is the buffer's elements under that part held. -/
theorem owns_any {sp : Space} {s : Shape} {e : EltTy} (M : Memref sig .tc sp s e) :
    (iprop(∃ X, owns (c : Thread nD τ) M fullShare X) : sProp 𝕄)
      = iprop(∃ f, M.view.loc (c : Thread nD τ) ↦[M.view.set]{fullShare} f) := by
  unfold owns
  refine BI.Entails.antisymm (show (_ : sProp 𝕄) ⊢ _ from ?_) (show (_ : sProp 𝕄) ⊢ _ from ?_)
  · iintro ⟨%X, %f, -, H⟩; iexists f; iexact H
  · iintro ⟨%f, H⟩; iexists _; iexists f
    isplitr; · (ipureintro; rfl)
    iexact H

/-- A whole buffer splits into slots along its leading axis, -/
theorem whole_split {n : ℕ} (b : Ref sig .tc) (J : Fin n → Rect b.ty.shape) (hs : ∀ j a, (J j).stride a = 1)
    (hd : ∀ j j', j ≠ j' → Disjoint (J j).set (J j').set) (hc : Finset.univ.biUnion (fun j => (J j).set) = Finset.univ) :
    (iprop(∃ f : Buf (Elt F) ((c : Thread nD τ).loc b), ((c : Thread nD τ).loc b) ↦{fullShare} f) : sProp 𝕄)
      ⊢ bigSep Finset.univ fun j => iprop(∃ X, owns (c : Thread nD τ) ((Memref.whole b).slice (J j) (hs j)) fullShare X) := by
  rw [bigSep_congr fun j _ => owns_any c ((Memref.whole b).slice (J j) (hs j))]
  iintro ⟨%f, H⟩
  ihave H := (Entails.of_eq (pointsTo_blocks (ℓ := (c : Thread nD τ).loc b) (fun j => (J j).set) hd hc f)) $$ H
  have e : (bigSep Finset.univ fun j => (((c : Thread nD τ).loc b) ↦[(J j).set]{fullShare} f : sProp 𝕄))
      ⊢ bigSep Finset.univ fun j => iprop(∃ f, ((Memref.whole b).slice (J j) (hs j)).view.loc (c : Thread nD τ) ↦[((Memref.whole b).slice (J j) (hs j)).view.set]{fullShare} f) :=
    bigSep_mono fun j _ => by
      rw [← View.set_slice_whole b (J j)]
      refine (show (_ : sProp 𝕄) ⊢ _ from ?_)
      iintro H; iexists f; iexact H
  iapply e; iexact H

include m in
/-- and joins back. -/
theorem whole_join {n : ℕ} (b : Ref sig .tc) (J : Fin n → Rect b.ty.shape) (hs : ∀ j a, (J j).stride a = 1)
    (hd : ∀ j j', j ≠ j' → Disjoint (J j).set (J j').set) (hc : Finset.univ.biUnion (fun j => (J j).set) = Finset.univ) :
    (bigSep Finset.univ fun j => iprop(∃ X, owns (c : Thread nD τ) ((Memref.whole b).slice (J j) (hs j)) fullShare X) : sProp 𝕄)
      ⊢ iprop(∃ f : Buf (Elt F) ((c : Thread nD τ).loc b), ((c : Thread nD τ).loc b) ↦{fullShare} f) := by
  rw [bigSep_congr fun j _ => owns_any c ((Memref.whole b).slice (J j) (hs j))]
  refine BI.Entails.trans (bigSep_mono fun j _ => ?_)
    (pointsTo_blocks_join_exists (ℓ := (c : Thread nD τ).loc b) (fun j => (J j).set) hd hc (m ((c : Thread nD τ).loc b)))
  rw [← View.set_slice_whole b (J j)]
  exact BI.Entails.refl _

theorem slotR_disj (b b' : Fin 3) (h : b ≠ b') : Disjoint (slotR b).set (slotR b').set :=
  lead_disjoint (s := S3x512x1024) 0 1 (fun k : Fin 3 => ![k.val, 0, 0]) S1x512x1024.size slotR_inb (by decide) (by decide) b b' h
theorem slotR_cover : Finset.univ.biUnion (fun b => (slotR b).set) = Finset.univ :=
  lead_cover (s := S3x512x1024) 0 1 (fun k : Fin 3 => ![k.val, 0, 0]) S1x512x1024.size slotR_inb (by decide) (by decide) (by decide) (by decide) (by decide)
theorem stgR_disj (b b' : Fin 2) (h : b ≠ b') : Disjoint (stgR b).set (stgR b').set :=
  lead_disjoint (s := S2x1024x1024) 0 1 (fun k : Fin 2 => ![k.val, 0, 0]) S1x1024x1024.size stgR_inb (by decide) (by decide) b b' h
theorem stgR_cover : Finset.univ.biUnion (fun b => (stgR b).set) = Finset.univ :=
  lead_cover (s := S2x1024x1024) 0 1 (fun k : Fin 2 => ![k.val, 0, 0]) S1x1024x1024.size stgR_inb (by decide) (by decide) (by decide) (by decide) (by decide)
theorem exR_disj (b b' : Fin 8) (h : b ≠ b') : Disjoint (exR b).set (exR b').set :=
  lead_disjoint (s := S8x1024x1024) 0 1 (fun k : Fin 8 => ![k.val, 0, 0]) S1x1024x1024.size exR_inb (by decide) (by decide) b b' h
theorem exR_cover : Finset.univ.biUnion (fun b => (exR b).set) = Finset.univ :=
  lead_cover (s := S8x1024x1024) 0 1 (fun k : Fin 8 => ![k.val, 0, 0]) S1x1024x1024.size exR_inb (by decide) (by decide) (by decide) (by decide) (by decide)

theorem sep2 (Φ : Fin 2 → sProp 𝕄) : bigSep Finset.univ Φ = iprop(Φ 0 ∗ Φ 1) := bigSep_univ_eq_bigSepL [0, 1] (by decide) (by decide) Φ
theorem sep3 (Φ : Fin 3 → sProp 𝕄) : bigSep Finset.univ Φ = iprop(Φ 0 ∗ Φ 1 ∗ Φ 2) := bigSep_univ_eq_bigSepL [0, 1, 2] (by decide) (by decide) Φ
theorem sep7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem sep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem sep9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The scratch handed over whole is the scratch the kernel starts from, -/
theorem scratch_split : (Pipeline.scopedRest (Ix := Unit) (Name := ℕ) (U := UU) (Lvl := ℕ) (Val := Elt F) spec0 c : sProp 𝕄) ⊢ scratch c := by
  rw [scopedRest0_eq]
  have e2 := whole_split (F := F) c cc0_scratch2 stgR (fun _ _ => rfl) stgR_disj stgR_cover
  have e3 := whole_split (F := F) c cc0_scratch3 exR (fun _ _ => rfl) exR_disj exR_cover
  have e4 := whole_split (F := F) c cc0_scratch4 slotR (fun _ _ => rfl) slotR_disj slotR_cover
  have e5 := whole_split (F := F) c cc0_scratch5 slotR (fun _ _ => rfl) slotR_disj slotR_cover
  rw [sep2] at e2; rw [sep8] at e3; rw [sep3] at e4 e5
  unfold scratch stgAny ewAny sendAny recvAny
  iintro ⟨H0, H1, H2, H3, H4, H5⟩
  isplitl [H0]; · iexact H0
  isplitl [H1]; · iexact H1
  isplitl [H2]; · iapply e2; iexact H2
  isplitl [H3]; · iapply e3; iexact H3
  isplitl [H4]; · iapply e4; iexact H4
  iapply e5; iexact H5

include m in
/-- and what it leaves is handed back whole. -/
theorem scratch_join : scratch c ⊢ (Pipeline.scopedRest (Ix := Unit) (Name := ℕ) (U := UU) (Lvl := ℕ) (Val := Elt F) spec0 c : sProp 𝕄) := by
  rw [scopedRest0_eq]
  have e2 := whole_join m c cc0_scratch2 stgR (fun _ _ => rfl) stgR_disj stgR_cover
  have e3 := whole_join m c cc0_scratch3 exR (fun _ _ => rfl) exR_disj exR_cover
  have e4 := whole_join m c cc0_scratch4 slotR (fun _ _ => rfl) slotR_disj slotR_cover
  have e5 := whole_join m c cc0_scratch5 slotR (fun _ _ => rfl) slotR_disj slotR_cover
  rw [sep2] at e2; rw [sep8] at e3; rw [sep3] at e4 e5
  unfold scratch stgAny ewAny sendAny recvAny
  iintro ⟨H0, H1, H2, H3, H4, H5⟩
  isplitl [H0]; · iexact H0
  isplitl [H1]; · iexact H1
  isplitl [H2]; · iapply e2; iexact H2
  isplitl [H3]; · iapply e3; iexact H3
  isplitl [H4]; · iapply e4; iexact H4
  iapply e5; iexact H5

end Cert.MoeProof

end
-- ==== Proof.Launch.lean ====
/- The launch: the body's obligation on each device, the ghost state of the protocol dealt to the devices, and the run of
   the program. -/
module

public import proofs.«01_k».proof.Proof.Slots
public import Idealize.ShloMosaic.Lib.Pipeline.CollectiveSegs
public import Idealize.ShloMosaic.Adequacy
public import Idealize.ShloMosaic.Init

@[expose] public section

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The body's obligation -/

def obPre (c : Dev nD) : sProp 𝕄 :=
  iprop(Φ₀ m c ∗ (dats m 0 c).owesAt () t₀.castSucc
    ∗ (∃ d, stg c cc0_stg0_0 ((dats m 0 c).before (0 : Fin 4) t₀ d))
    ∗ (∃ d, stg c cc0_stg1_0 ((dats m 0 c).before (1 : Fin 4) t₀ d))
    ∗ (∃ d, stg c cc0_stg2_0 ((dats m 0 c).before (2 : Fin 4) t₀ d))
    ∗ (∃ d, stg c cc0_stg3_0 ((dats m 0 c).before (3 : Fin 4) t₀ d)))
def obPost (c : Dev nD) : sProp 𝕄 :=
  iprop(Φ₁ m c ∗ (dats m 0 c).owesAt () t₀.succ
    ∗ stg c cc0_stg0_0 (xstg m c) ∗ stg c cc0_stg1_0 (rstg m c) ∗ stg c cc0_stg2_0 (istg m c) ∗ stg c cc0_stg3_0 (outAt m c))

theorem before0 (c : Dev nD) (d) : (dats m 0 c).before (0 : Fin 4) t₀ d = xstg m c := by
  unfold Dat.before; rw [if_pos (fetch0_0 t₀)]; rfl
theorem before1 (c : Dev nD) (d) : (dats m 0 c).before (1 : Fin 4) t₀ d = rstg m c := by
  unfold Dat.before; rw [if_pos (fetch0_1 t₀)]; rfl
theorem before2 (c : Dev nD) (d) : (dats m 0 c).before (2 : Fin 4) t₀ d = istg m c := by
  unfold Dat.before; rw [if_pos (fetch0_2 t₀)]; rfl

set_option maxRecDepth 8000 in
/-- The body's obligation on device `c`. -/
theorem body_obligation (c : Dev nD) : BodyObligation (dats (F := F) m 0 c) (defs₀ (F := F)) 𝒱₀ () Set.univ := fun t => by
  rw [fin_N t]
  rw [bigSep_W, bigSep_W]
  simp only [owns_whole_stg]
  show obPre m c ⊢ wp frame (wpE (defs₀ (F := F)) 𝒱₀ c none) Set.univ theBody (fun _ => obPost m c)
  unfold obPre Φ₀ start
  simp only [before0, before1, before2]
  iintro ⟨⟨⟨⟨%K, Hg⟩, Hz, Hc, Hl, Hw⟩, Hscr⟩, Ho, ⟨%d0, H0⟩, ⟨%d1, H1⟩, ⟨%d2, H2⟩, %d3, H3⟩
  iapply (sound_body m K c fun _ => obPost m c)
  unfold bodyPre owing Dat.owesAt Pipeline.owesWithin
  isplitr []
  · isplitl [Hg Hz Hc Hl Hw]
    · isplitl [Hg]; · iexact Hg
      isplitl [Hz]; · iexact Hz
      isplitl [Hc]; · iexact Hc
      isplitl [Hl]; · iexact Hl
      iexact Hw
    isplitl [Hscr]; · iexact Hscr
    isplitl [Ho]
    · icases Ho with ⟨%W, -, Ho⟩
      iexists W; iexact Ho
    isplitl [H0]; · iexact H0
    isplitl [H1]; · iexact H1
    isplitl [H2]; · iexact H2
    iexists _; iexact H3
  · unfold bodyPost obPost owing Dat.owesAt Pipeline.owesWithin
    iintro ⟨HΦ, ⟨%W, HO⟩, Hrest⟩
    isplitl [HΦ]; · iexact HΦ
    isplitl [HO]
    · iexists W
      isplitr; · ipureintro; exact fun _ _ => Or.inl trivial
      iexact HO
    iexact Hrest

/-! ## The ghost state dealt -/

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide

theorem kcell_injective : Function.Injective (kcell : Dev nD × Fin 7 → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- The nine duties of a device's own cells: the cell's semaphore, and which duty. -/
abbrev duty : Fin 9 → SemLoc sig × Fin 3 := fun
  | 0 => (.reg barS, 0) | 1 => (.reg barS, 1) | 2 => (.reg barS, 2)
  | 3 => (.dma (sendQ 0), 0) | 4 => (.dma (sendQ 1), 0) | 5 => (.dma (sendQ 2), 0)
  | 6 => (.dma (recvQ 0), 0) | 7 => (.dma (recvQ 1), 0) | 8 => (.dma (recvQ 2), 0)
theorem duty_injective : Function.Injective duty := by decide
abbrev tokOf (cj : Dev nD × Fin 9) : GSem nD τ sig × ℕ × Fin 3 := (((cj.1 : Thread nD τ), (duty cj.2).1), 0, (duty cj.2).2)
theorem tokOf_injective : Function.Injective (tokOf : Dev nD × Fin 9 → GSem nD τ sig × ℕ × Fin 3) := by
  rintro ⟨c, j⟩ ⟨c', j'⟩ h
  have h1 : c = c' := congrArg (fun x : GSem nD τ sig × ℕ × Fin 3 => x.1.1.1) h
  have h2 : j = j' := duty_injective (congrArg (fun x : GSem nD τ sig × ℕ × Fin 3 => (x.1.2, x.2.2)) h)
  rw [h1, h2]
def ringToks : Finset (GSem nD τ sig × ℕ × Fin 3) := Finset.univ.map ⟨tokOf, tokOf_injective⟩

def u₀ : UU :=
  (initOf (Pipeline.cells cfgs cellOf_inj) (Pipeline.launchToks cfgs cellOf_inj), (initOf ringCells ringToks, (1 : Counters)))

/-- The duty tokens of device `c`'s own cells. -/
def toks (c : Dev nD) : sProp 𝕄 :=
  iprop(dutyTok ER (barCell c) 0 0 ∗ dutyTok ER (barCell c) 0 1 ∗ dutyTok ER (barCell c) 0 2
    ∗ dutyTok ER (sendCell c 0) 0 0 ∗ dutyTok ER (sendCell c 1) 0 0 ∗ dutyTok ER (sendCell c 2) 0 0
    ∗ dutyTok ER (recvCell c 0) 0 0 ∗ dutyTok ER (recvCell c 1) 0 0 ∗ dutyTok ER (recvCell c 2) 0 0)

/-- What the launch deals device `c`, -/
def G (c : Dev nD) : sProp 𝕄 :=
  iprop((bigSep Finset.univ fun k : Fin 7 => roundState ER (ringRd m) (kcell (c, k)) 0)
    ∗ (bigSep Finset.univ fun k : Fin 7 => iprop(atPos ER (kcell (c, k)) 0 ∅ 0 ∗ reached ER (kcell (c, k)) 0)) ∗ toks c)

/-- and what becomes of it once the cells are shared. -/
def G' (c : Dev nD) : sProp 𝕄 := iprop((∃ K, ghost m K c) ∗ copyZeros c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [sep9]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal ((c : Thread nD τ), .dma (copyQ 0)) 0 ∗ semVal ((c : Thread nD τ), .dma (copyQ 1)) 0
      ∗ semVal (sendCell c 0) 0 ∗ semVal (sendCell c 1) 0 ∗ semVal (sendCell c 2) 0
      ∗ semVal (recvCell c 0) 0 ∗ semVal (recvCell c 1) 0 ∗ semVal (recvCell c 2) 0) := by
  rw [Pipeline.ownSems0_eq_of_list c osem [0, 1, 2, 3, 4, 5, 6, 7] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's semaphores at zero, sorted. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 7 => semVal (kcell (c, k)) 0) ∗ copyZeros c) : sProp 𝕄) := by
  rw [ownSems0_eq, unscopedSems0_eq, sep7]
  unfold copyZeros
  iintro ⟨⟨H0, H1, H2, H3, H4, H5, H6, H7⟩, HB⟩
  isplitr [H0 H1]
  · isplitl [HB]; · iexact HB
    isplitl [H2]; · iexact H2
    isplitl [H3]; · iexact H3
    isplitl [H4]; · iexact H4
    isplitl [H5]; · iexact H5
    isplitl [H6]; · iexact H6
    iexact H7
  · isplitl [H0]; · iexact H0
    iexact H1

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c ∗ copyZeros c) := by
  unfold G
  iintro ⟨Hos, Hus, Hst, Hat, Htok⟩
  ihave Hv := (sems0_eq (F := F) c) $$ [Hos Hus]
  · isplitl [Hos] <;> iassumption
  icases Hv with ⟨Hv, Hz⟩
  imod (show iprop((bigSep Finset.univ fun k : Fin 7 => semVal (kcell (c, k)) 0) ∗ bigSep Finset.univ fun k : Fin 7 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hz

/-- Device `c`'s own part. -/
def linear (c : Dev nD) : sProp 𝕄 := iprop(atRound c 0 ∗ payToks c ∗ copyZeros c)

theorem ghost_intro (K : Dev nD × Fin 7 → ℕ) (c : Dev nD) : iprop(records m K ∗ linear c) ⊢ G' m c := by
  unfold linear G' ghost
  iintro ⟨HR, Ha, Ht, Hz⟩
  isplitr [Hz]
  · iexists K
    isplitl [HR]; · iexact HR
    isplitl [Ha]; · iexact Ha
    iexact Ht
  iexact Hz

/-- The tokens dealt to the devices that pay the duties. -/
theorem toks_around : (bigSep Finset.univ fun c : Dev nD => (toks c : sProp 𝕄)) ⊢ bigSep Finset.univ fun c : Dev nD => payToks c := by
  unfold toks payToks
  simp only [bigSep_sep']
  rw [bigSep_univ_equiv (shEquiv 1) (fun c : Dev nD => (dutyTok ER (barCell c) 0 0 : sProp 𝕄)),
    bigSep_univ_equiv (shEquiv 2) (fun c : Dev nD => (dutyTok ER (barCell c) 0 1 : sProp 𝕄)),
    bigSep_univ_equiv (shEquiv 3) (fun c : Dev nD => (dutyTok ER (barCell c) 0 2 : sProp 𝕄)),
    bigSep_univ_equiv (shEquiv 3) (fun c : Dev nD => (dutyTok ER (recvCell c 0) 0 0 : sProp 𝕄)),
    bigSep_univ_equiv (shEquiv 2) (fun c : Dev nD => (dutyTok ER (recvCell c 1) 0 0 : sProp 𝕄)),
    bigSep_univ_equiv (shEquiv 1) (fun c : Dev nD => (dutyTok ER (recvCell c 2) 0 0 : sProp 𝕄))]
  iintro ⟨HB0, HB1, HB2, HS0, HS1, HS2, HR0, HR1, HR2⟩
  isplitl [HB0 HB1 HB2]
  · isplitl [HB0]; · iexact HB0
    isplitl [HB1]; · iexact HB1
    iexact HB2
  isplitl [HR0 HR1 HR2]
  · isplitl [HR2]; · iexact HR2
    isplitl [HR1]; · iexact HR1
    iexact HR0
  isplitl [HS0]; · iexact HS0
  isplitl [HS1]; · iexact HS1
  iexact HS2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem at_round (c : Dev nD) : (bigSep Finset.univ fun k : Fin 7 => (atPos ER (kcell (c, k)) 0 ∅ 0 : sProp 𝕄)) ⊢ atRound c 0 := by
  unfold atRound
  rw [sep7]
  iintro ⟨H0, H1, H2, H3, H4, H5, H6⟩
  isplitl [H0]; · iexact H0
  isplitl [H1 H2 H3]
  · isplitl [H1]; · iexact H1
    isplitl [H2]; · iexact H2
    iexact H3
  isplitl [H4]; · iexact H4
  isplitl [H5]; · iexact H5
  iexact H6

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c ∗ copyZeros c) : sProp 𝕄)
      ⊢ bigSep Finset.univ (G' m) := by
  rw [bigSep_sep', bigSep_sep', bigSep_sep', ← bigSep_univ_prod (fun ck : Dev nD × Fin 7 => iprop(∃ κ : ℕ, cellInv ER (ringRd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok, Hz⟩
  ihave HK := (BI.bigSep_exists_pi Finset.univ (fun (ck : Dev nD × Fin 7) (κ : ℕ) => (cellInv ER (ringRd m) κ (kcell ck) : sProp 𝕄))) $$ HI
  icases HK with ⟨%K, #HI⟩
  ihave Htk := (toks_around (F := F)) $$ Htok
  have hat : (bigSep Finset.univ fun c : Dev nD => bigSep Finset.univ fun k : Fin 7 => (atPos ER (kcell (c, k)) 0 ∅ 0 : sProp 𝕄))
      ⊢ bigSep Finset.univ fun c : Dev nD => atRound c 0 := bigSep_mono fun c _ => at_round (F := F) c
  ihave Hat := hat $$ Hat
  iapply (bigSep_with_persistent (R := records m K) fun c _ => ghost_intro m K c)
  isplitr
  · unfold records; isplitl; · iexact HI
    iexact HR
  · unfold linear
    simp only [bigSep_sep']
    isplitl [Hat]; · iexact Hat
    isplitl [Htk]; · iexact Htk
    iexact Hz

/-- Every device's semaphores turned into the shared cells, all at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem cred_of (sm : SemLoc sig) (n k : ℕ) (h : n + k = 4) (N : ℕ) (c : Dev nD) :
    (Pipeline.launchCred (fun d : Dev nD => tallyAt ((sh n d : Thread nD τ), sm) () N) c : sProp 𝕄) ⊢ cred (tallyAt ((c : Thread nD τ), sm) () N) :=
  Pipeline.launchCred_tallyAt sm (sh n) (sh k) (fun c => by rw [sh_sh, Nat.add_comm, h, sh_four]) (fun c => by rw [sh_sh, h, sh_four]) () N c

/-- What the launch credits a device with: three units at its barrier cell and a chunk at each receive cell. -/
theorem launch_creds (c : Dev nD) : (Pipeline.launchCred O₀ c : sProp 𝕄) ⊢ creds c := by
  rw [show (O₀ : Dev nD → CellTallies nD τ sig Unit) = fun d => tallyAt (recvCell (sh 3 d) 0) () N + tallyAt (recvCell (sh 2 d) 1) () N + tallyAt (recvCell (sh 1 d) 2) () N + tallyAt (barCell (sh 3 d)) () 1
      + tallyAt (barCell (sh 2 d)) () 1 + tallyAt (barCell (sh 1 d)) () 1 from rfl]
  rw [Pipeline.launchCred_add, Pipeline.launchCred_add, Pipeline.launchCred_add, Pipeline.launchCred_add, Pipeline.launchCred_add]
  unfold creds
  iintro ⟨⟨⟨⟨⟨H0, H1⟩, H2⟩, HB3⟩, HB2⟩, HB1⟩
  ihave H0 := (cred_of (F := F) (.dma (recvQ 0)) 3 1 rfl N c) $$ H0
  ihave H1 := (cred_of (F := F) (.dma (recvQ 1)) 2 2 rfl N c) $$ H1
  ihave H2 := (cred_of (F := F) (.dma (recvQ 2)) 1 3 rfl N c) $$ H2
  ihave HB3 := (cred_of (F := F) (.reg barS) 3 1 rfl 1 c) $$ HB3
  ihave HB2 := (cred_of (F := F) (.reg barS) 2 2 rfl 1 c) $$ HB2
  ihave HB1 := (cred_of (F := F) (.reg barS) 1 3 rfl 1 c) $$ HB1
  isplitl [HB1 HB2 HB3]
  · rw [show (tallyAt (barCell c) () 3 : CellTallies nD τ sig Unit) = tallyAt (barCell c) () 1 + (tallyAt (barCell c) () 1 + tallyAt (barCell c) () 1) from by
      rw [tallyAt_add, tallyAt_add]]
    iapply (cred_add _ _).2
    isplitl [HB1]; · iexact HB1
    iapply (cred_add _ _).2
    isplitl [HB2]; · iexact HB2
    iexact HB3
  isplitl [H0]; · iexact H0
  isplitl [H1]; · iexact H1
  iexact H2

/-! ## The launch's side conditions -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_eq_of_list (Ix := Unit) (Name := ℕ) (U := UU) (Lvl := ℕ) cfg0.spec c Pipeline.Prefetch.none (fun b => m ((c : Thread nD τ).loc b)) [main_arg3] (by decide) (by decide)]
  rw [bigSepL_singleton]
  iintro ⟨Hw, Hlev, Hcr, -, HG⟩
  ihave Hc := (launch_creds (F := F) c) $$ Hcr
  imodintro
  unfold start G'
  icases HG with ⟨HG, Hz⟩
  isplitl
  · isplitl [HG]; · iexact HG
    isplitl [Hz]; · iexact Hz
    isplitl [Hc]; · iexact Hc
    isplitl [Hlev]; · iexact Hlev
    iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (scratch_split (F := F) c); iexact Hr

theorem phi1_exit (c : Dev nD) :
    (dats m 0 c).Φ (Fin.last cfg0.N) ⊢ iprop((unscopedSems0 c ∗ wPts m c fullShare) ∗ Pipeline.ownSems0 osem c ∗ Pipeline.scopedRest cfg0.spec c) := by
  rw [show (dats m 0 c).Φ (Fin.last cfg0.N) = Φ₁ m c from rfl, ownSems0_eq, unscopedSems0_eq]
  unfold Φ₁ zeros copyZeros
  iintro ⟨Hr, ⟨HB, ⟨HS0, HS1, HS2⟩, HR0, HR1, HR2⟩, ⟨HC0, HC1⟩, Hw⟩
  isplitl [HB Hw]
  · isplitl [HB]; · iexact HB
    iexact Hw
  isplitr [Hr]
  · isplitl [HC0]; · iexact HC0
    isplitl [HC1]; · iexact HC1
    isplitl [HS0]; · iexact HS0
    isplitl [HS1]; · iexact HS1
    isplitl [HS2]; · iexact HS2
    isplitl [HR0]; · iexact HR0
    isplitl [HR1]; · iexact HR1
    iexact HR2
  iapply (scratch_join m c); iexact Hr

theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide) _ (by
      rcases t with ⟨_ | _, ht⟩
      · exact fun _ _ h => h
      · exact fun _ _ h => absurd h (Nat.lt_irrefl 0))

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg3) = m ((c : Thread nD τ).loc main_arg3)

set_option maxRecDepth 8000 in
/-- From any memory with all semaphores at zero, every fair execution of the program on the four devices terminates, and
    leaves each array at its computed contents, the experts' weights as they were, and every semaphore at zero. -/
theorem run_main (ρ : Dev nD → PrngReg) :
    θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H := (own_pair_emb _ _ _) $$ HX
      icases H with ⟨HX, -⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ wPts m c fullShare)) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg3) = m ((c : Thread nD τ).loc main_arg3))
    (hY := fun c s' => by
      iintro ⟨⟨Hu, Hw⟩, -, HSI⟩
      icombine HSI Hw gives %h
      imod (Pipeline.unscopedSems0_read (X := unscopedSems0 c) (c := c) fupd_intro s') $$ [Hu HSI] with ⟨%hs, HSI⟩
      · isplitl [Hu] <;> iassumption
      imodintro
      isplitr
      · ipureintro; exact ⟨hs, Buf.eq_of_forall_mem_univ h⟩
      iexact HSI)
    (hQ := fun _ h hs => ⟨fun c => ⟨fun w => (h c).1 w, (h c).2.2.2⟩, sem_eq_zero hs fun c => (h c).2.2.1⟩)

end Cert.MoeProof

end
-- ==== Proof.Frames.lean ====
/- What a run leaves, in the claims' words: the arguments as they were, the semaphores at zero, and on each device the
   block of the result the kernel's body computed. -/
module

public import proofs.«01_k».proof.Proof.Launch
public import proofs.«01_k».proof.Proof.Gen.ReferenceIdeal.Run
public import Idealize.ShloMosaic.Lib.Claim
public import Idealize.ShloMosaic.Lib.Pipeline.ValueKit

@[expose] public section

noncomputable section

namespace Cert.MoeProof

open Cert.KernelIdeal Cert.KernelIdeal.Gen
open Idealize.ShloMosaic
open Idealize.ShloMosaic.TcCoe
open Idealize.SL.Sem
open Idealize.ShloMosaic.Pipeline (Dat)

variable {F : FTy → Type} [FloatOps F]

variable (m : (ℓ : Loc nD τ sig) → Buf (Elt F) ℓ)

/-- The only window written back is the result's, whole, at the one grid point: its array ends with the body's block. -/
theorem result_eq (c : Dev nD) : finalA m c 3 = outAt m c := by
  unfold finalA
  refine (dats (F := F) m 0 c).arrAt_eq_of_after_last (3 : Fin 4) t₀ (by decide +kernel) _ fun j => ?_
  rfl

/-- What every run leaves: the four arguments as they were, and the result. -/
theorem kept_of_QC {r : PUnit × MemSt nD τ sig (Elt F)} (h : QC m r) (c : Dev nD) :
    r.2.mem ((c : Thread nD τ).loc main_v1) = outAt m c ∧ r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3) :=
  ⟨((h c).1 (3 : Fin 4)).trans (result_eq m c), ((h c).1 (0 : Fin 4)).trans ((dats (F := F) m 0 c).arrAt_in (0 : Fin 4) rfl _),
    ((h c).1 (1 : Fin 4)).trans ((dats (F := F) m 0 c).arrAt_in (1 : Fin 4) rfl _),
    ((h c).1 (2 : Fin 4)).trans ((dats (F := F) m 0 c).arrAt_in (2 : Fin 4) rfl _), (h c).2⟩

/-- The frame, over any float values. -/
theorem frame_any (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => (kept_of_QC m h.1 c).2, h.2⟩) (run_main m ρ)

end Cert.MoeProof

end
-- ==== Proof.Domain.lean ====
/- What the precondition says: the activations and the router's weights are reals, and every route names an expert. -/
module

public import proofs.«01_k».proof.Pre_finite_and_routed_KernelIdeal
public import proofs.«01_k».proof.Pre_finite_and_routed_ReferenceIdeal
public import Idealize.ShloMosaic.Lib.Pointwise
public import Idealize.ShloMosaic.Lib.ReduceAll

@[expose] public section

set_option maxRecDepth 16384

noncomputable section

namespace Cert.MoeProof

open Cert.Pre_finite_and_routed_KernelIdeal
open Idealize.ShloMosaic

instance preFacts : Cert.Pre_finite_and_routed_KernelIdeal.Facts := by
  constructor <;> decide
instance preFactsR : Cert.Pre_finite_and_routed_ReferenceIdeal.Facts := by
  constructor <;> decide

/-- An extended real whose magnitude is below the top is a real. -/
theorem real_of_abs (x : EReal) (h : max x (-x) < ⊤) : ∃ r : ℝ, x = r := by
  have h1 : x ≠ ⊤ := fun e => by simp [e] at h
  have h2 : x ≠ ⊥ := fun e => by simp [e] at h
  exact ⟨x.toReal, (EReal.coe_toReal h1 h2).symm⟩

theorem ofBits_top : Ideal.ofBits FTy.f32 0x7F800000#32 = (⊤ : EReal) := by
  simp [Ideal.ofBits, Ideal.ieee]

theorem bit_one (b : Bool) : BitVec.ofBool b = 1#1 ↔ b = true := by cases b <;> decide

/-- An extended real whose magnitude compares below the word for infinity is a real. -/
theorem real_of_cmp (x : EReal) (h : Ideal.cmp .olt (max x (-x)) (Ideal.ofBits FTy.f32 0x7F800000#32) = 1#1) : ∃ r : ℝ, x = r := by
  rw [ofBits_top] at h
  exact real_of_abs x (of_decide_eq_true ((bit_one _).1 h))

/-- A word that is at least 0 and below 32, read signed, names one of 32 experts. -/
theorem expert_of_word (w : BitVec 32) (h0 : IntOp.cmpi .sge w 0#32 = 1#1) (h1 : IntOp.cmpi .slt w 32#32 = 1#1) :
    ∃ e : Fin 32, w = BitVec.ofNat 32 e.val := by
  have t0 : (0 : Int) ≤ w.toInt := by
    have := (bit_one _).1 h0
    simpa [BitVec.sle] using this
  have t1 : w.toInt < 32 := by
    have := (bit_one _).1 h1
    simpa [BitVec.slt] using this
  have h : w.toNat < 32 := by
    rw [BitVec.toInt_eq_toNat_cond] at t0 t1
    split_ifs at t0 t1 <;> omega
  exact ⟨⟨w.toNat, h⟩, by simp⟩

theorem domain (X : FVec Ideal S2048x1024 .f32) (R : FVec Ideal S1024x32 .f32) (I : IVec S2048x2 32) (W : FVec Ideal S8x1024x1024 .f32)
    (h : fn X R I W = fun _ => 1#1) :
    (∀ i, ∃ r : ℝ, X i = (r : EReal)) ∧ (∀ i, ∃ r : ℝ, R i = (r : EReal)) ∧ ∀ i, ∃ e : Fin 32, I i = BitVec.ofNat 32 e.val := by
  have h' := congrFun h ix0
  unfold fn at h'
  obtain ⟨h12, h3⟩ := IntOp.andi_eq_one.1 h'
  obtain ⟨h1, h2⟩ := IntOp.andi_eq_one.1 h12
  have hs : Subsingleton S_.Idx := ⟨fun a b => funext fun k => k.elim0⟩
  refine ⟨fun i => ?_, fun i => ?_, fun i => ?_⟩
  · exact real_of_cmp (X i) (Host.reduce_andi_all _ _ _ _ _ h1 i)
  · exact real_of_cmp (R i) (Host.reduce_andi_all _ _ _ _ _ h2 i)
  · obtain ⟨ha, hb⟩ := IntOp.andi_eq_one.1 (Host.reduce_andi_all _ _ _ _ _ h3 i)
    exact expert_of_word (I i) ha hb

end Cert.MoeProof

end
-- ==== Proof.Chunk.lean ====
/- One partial result read at an index: over the reals the kernel's four ways of accumulating 512 rows are one sum, over
   the device's eight experts, of the gate value times the row's product with the expert's weights. -/
module

public import proofs.«01_k».proof.Proof.Values
public import Idealize.ShloMosaic.Lib.Pointwise

@[expose] public section

set_option maxRecDepth 16384

noncomputable section

namespace Cert.MoeProof

open Cert.KernelIdeal Cert.KernelIdeal.Gen
open Idealize.ShloMosaic
open Idealize.ShloMosaic.TcCoe

/-- Row `r`, column `h` of one partial result: `x` the rows, `g` their gate values, `w` the eight experts. -/
def chunk (x : Vec Ideal S512x1024 .bf16) (g : Vec Ideal S512x8 .f32) (w : Fin 8 → Vec Ideal S1x1024x1024 .bf16)
    (r : Fin 512) (h : Fin 1024) : EReal :=
  ∑ j : Fin 8, (g (ix2 r j) : EReal) * ∑ k : Fin 1024, (x (ix2 r k) : EReal) * (w j (ix3 0 k h) : EReal)

/-- The partial result a device keeps. -/
theorem chunk_kept (x : Vec Ideal S512x1024 .bf16) (g : Vec Ideal S512x8 .f32) (w : Fin 8 → Vec Ideal S1x1024x1024 .bf16)
    (r : Fin 512) (h : Fin 1024) :
    k0_pay40 (F := Ideal) x g (k0_pay37 x g (w 0) (w 1)) (k0_pay38 x (w 2)) (k0_pay39 g) (w 3) (w 4) (w 5) (w 6) (w 7) (ix2 r h)
      = chunk x g w r h := by
  pointwise [k0_pay40, k0_pay37, k0_pay38, k0_pay39]
  simp only [chunk, Fin.sum_univ_eight, zero_add]

/-- The first partial result it sends, accumulated while the experts' weights arrive; -/
theorem chunk_sent0 (x : Vec Ideal S512x1024 .bf16) (g : Vec Ideal S512x8 .f32) (w : Fin 8 → Vec Ideal S1x1024x1024 .bf16)
    (r : Fin 512) (h : Fin 1024) :
    k0_pay30 (F := Ideal) x g
      (k0_pay28 x g (k0_pay26 x g (k0_pay21 x g (k0_pay19 x g (k0_pay17 x g (k0_pay15 x g k0_pay13 (w 0)) (w 1)) (w 2)) (w 3))
        (k0_pay23 x (w 4)) (k0_pay24 g) (w 5)) (w 6)) (w 7) (ix3 0 r h)
      = chunk x g w r h := by
  pointwise [k0_pay30, k0_pay28, k0_pay26, k0_pay21, k0_pay19, k0_pay17, k0_pay15, k0_pay13, k0_pay23, k0_pay24]
  simp only [chunk, Fin.sum_univ_eight, zero_add]

/-- the second; -/
theorem chunk_sent1 (x : Vec Ideal S512x1024 .bf16) (g : Vec Ideal S512x8 .f32) (w : Fin 8 → Vec Ideal S1x1024x1024 .bf16)
    (r : Fin 512) (h : Fin 1024) :
    k0_pay33 (F := Ideal) x g (k0_pay31 x g (w 0) (w 1) (w 2) (w 3)) (k0_pay32 x g (w 4)) (w 5) (w 6) (w 7) (ix3 0 r h)
      = chunk x g w r h := by
  pointwise [k0_pay33, k0_pay31, k0_pay32]
  simp only [chunk, Fin.sum_univ_eight, zero_add]

/-- and the third. -/
theorem chunk_sent2 (x : Vec Ideal S512x1024 .bf16) (g : Vec Ideal S512x8 .f32) (w : Fin 8 → Vec Ideal S1x1024x1024 .bf16)
    (r : Fin 512) (h : Fin 1024) :
    k0_pay36 (F := Ideal) x g (k0_pay34 x g (w 0) (w 1) (w 2)) (k0_pay35 (w 3)) (constant S512x1024 .f32 0x00000000#32)
      (w 4) (w 5) (w 6) (w 7) (ix3 0 r h)
      = chunk x g w r h := by
  pointwise [k0_pay36, k0_pay34, k0_pay35]
  simp only [chunk, Fin.sum_univ_eight, zero_add]

/-- The block of the result a device ends with: what it keeps and what it receives, added. -/
theorem out_sum (a : FVec Ideal S512x1024 .f32) (b c d : Vec Ideal S1x512x1024 .bf16) (r : Fin 512) (h : Fin 1024) :
    k0_pay42 (F := Ideal) (k0_pay41 a b c) d (ix2 r h)
      = (a (ix2 r h) : EReal) + (b (ix3 0 r h) : EReal) + (c (ix3 0 r h) : EReal) + (d (ix3 0 r h) : EReal) := by
  pointwise [k0_pay42, k0_pay41]

/-! ## The buffers they read -/

variable (m : (ℓ : Loc nD τ sig) → Buf (Elt Ideal) ℓ)

/-- The arguments, at their coordinates: the activations, the router's weights, the routes, and the weights of the
    device's experts. -/
def argX (c : Dev nD) (i : Fin 2048) (k : Fin 1024) : EReal := m ((c : Thread nD τ).loc main_arg0) (ix2 i k)
def argR (c : Dev nD) (k : Fin 1024) (e : Fin 32) : EReal := m ((c : Thread nD τ).loc main_arg1) (ix2 k e)
def argE (c : Dev nD) (i : Fin 2048) (b : Fin 2) : BitVec 32 := m ((c : Thread nD τ).loc main_arg2) (ix2 i b)
def argW (c : Dev nD) (j : Fin 8) (k h : Fin 1024) : EReal := m ((c : Thread nD τ).loc main_arg3) (ix3 j k h)

theorem xstg_eq (c : Dev nD) (i : Fin 2048) (k : Fin 1024) : xstg m c (ix2 i k) = argX m c i k := by
  unfold xstg argX
  show m _ _ = m _ _
  congr 1
  funext a
  exact Fin.ext (Pipeline.Window.rect_emb_val_of_index_zero win0_0 (0 : Fin 1) a rfl _)

theorem rstg_eq (c : Dev nD) (k : Fin 1024) (e : Fin 32) : rstg m c (ix2 k e) = argR m c k e := by
  unfold rstg argR
  show m _ _ = m _ _
  congr 1
  funext a
  exact Fin.ext (Pipeline.Window.rect_emb_val_of_index_zero win0_1 (0 : Fin 1) a rfl _)

theorem istg_eq (c : Dev nD) (i : Fin 2048) (b : Fin 2) : istg m c (ix2 i b) = argE m c i b := by
  unfold istg argE
  show m _ _ = m _ _
  congr 1
  funext a
  exact Fin.ext (Pipeline.Window.rect_emb_val_of_index_zero win0_2 (0 : Fin 1) a rfl _)

theorem xb_eq (c : Dev nD) (i : Fin 2048) (k : Fin 1024) : xb m c (ix2 i k) = argX m c i k := by
  unfold xb
  pointwise [k0_pay1]
  exact xstg_eq m c i k

theorem route0_eq (c : Dev nD) (i : Fin 2048) : route0 m c (ix2 i 0) = argE m c i 0 := by
  rw [← istg_eq]
  unfold route0
  congr 1
  funext a
  match a with
  | ⟨0, _⟩ => exact Fin.ext (by simp)
  | ⟨1, _⟩ => exact Fin.ext (by simp)

theorem route1_eq (c : Dev nD) (i : Fin 2048) : route1 m c (ix2 i 0) = argE m c i 1 := by
  rw [← istg_eq]
  unfold route1
  congr 1
  funext a
  match a with
  | ⟨0, _⟩ => exact Fin.ext (by simp)
  | ⟨1, _⟩ => exact Fin.ext (by simp)

theorem ew_eq (c : Dev nD) (j : Fin 8) (k h : Fin 1024) : ew m c j (ix3 0 k h) = argW m c j k h := by
  unfold ew
  pointwise [k0_pay14]
  unfold slab argW
  show m _ _ = m _ _
  congr 1
  funext a
  match a with
  | ⟨0, _⟩ => exact Fin.ext (show ((exR j).emb (ix3 0 k h) 0).val = j.val by simp)
  | ⟨1, _⟩ => exact Fin.ext (show ((exR j).emb (ix3 0 k h) 1).val = k.val by simp)
  | ⟨2, _⟩ => exact Fin.ext (show ((exR j).emb (ix3 0 k h) 2).val = h.val by simp)

/-- The rows device `o` owns, read at its row `r`. -/
def row (o : Dev nD) (r : Fin 512) : Fin 2048 := ⟨512 * o.val + r.val, by have h : o.val < 4 := o.isLt; omega⟩

theorem xAt_eq (c o : Dev nD) (off : Fin 2 → ℕ) (inb) (ho : off = ![512 * o.val, 0]) (r : Fin 512) (k : Fin 1024) :
    xAt m c off inb (ix2 r k) = argX m c (row o r) k := by
  subst ho
  rw [← xb_eq]
  unfold xAt
  congr 1
  funext a
  match a with
  | ⟨0, _⟩ => exact Fin.ext (by simp [row])
  | ⟨1, _⟩ => exact Fin.ext (by simp)

theorem gAt_eq (c o : Dev nD) (off : Fin 2 → ℕ) (inb) (ho : off = ![512 * o.val, 0]) (r : Fin 512) (j : Fin 8) :
    gAt m c off inb (ix2 r j) = gates m c (ix2 (row o r) j) := by
  subst ho
  unfold gAt
  congr 1
  funext a
  match a with
  | ⟨0, _⟩ => exact Fin.ext (by simp [row])
  | ⟨1, _⟩ => exact Fin.ext (by simp)

/-- What device `c` adds to row `i`, column `h` of the result: its eight experts. -/
def part (c : Dev nD) (i : Fin 2048) (h : Fin 1024) : EReal :=
  ∑ j : Fin 8, (gates m c (ix2 i j) : EReal) * ∑ k : Fin 1024, argX m c i k * argW m c j k h

theorem chunk_eq (c o : Dev nD) (off off' : Fin 2 → ℕ) (inb inb') (ho : off = ![512 * o.val, 0]) (ho' : off' = ![512 * o.val, 0])
    (r : Fin 512) (h : Fin 1024) :
    chunk (xAt m c off inb) (gAt m c off' inb') (ew m c) r h = part m c (row o r) h := by
  unfold chunk part
  simp only [xAt_eq m c o off inb ho, gAt_eq m c o off' inb' ho', ew_eq]

theorem kept_eq (c : Dev nD) (r : Fin 512) (h : Fin 1024) : kept m c (ix2 r h) = part m c (row c r) h :=
  (chunk_kept _ _ (ew m c) r h).trans (chunk_eq m c c _ _ _ _ (k0_off5_eq c) (k0_off6_eq c) r h)

theorem sent_eq (c : Dev nD) (k : Fin 3) (r : Fin 512) (h : Fin 1024) :
    sent m c k (ix3 0 r h) = part m c (row (sh (k.val + 1) c) r) h := by
  match k with
  | 0 => exact (chunk_sent0 _ _ (ew m c) r h).trans (chunk_eq m c (sh 1 c) _ _ _ _ (k0_off1_eq c) (k0_off2_eq c) r h)
  | 1 => exact (chunk_sent1 _ _ (ew m c) r h).trans (chunk_eq m c (sh 2 c) _ _ _ _ (k0_off3_eq c 0) (k0_off4_eq c 0) r h)
  | 2 => exact (chunk_sent2 _ _ (ew m c) r h).trans (chunk_eq m c (sh 3 c) _ _ _ _ (k0_off3_eq c 1) (k0_off4_eq c 1) r h)

theorem landed_eq (c : Dev nD) (s : Fin 3) (r : Fin 512) (h : Fin 1024) :
    landed m c s (ix3 0 r h) = part m (sh (s.val + 1) c) (row c r) h := by
  unfold landed
  rw [sent_eq, sh_sh, show s.val + 1 + (s.rev.val + 1) = 4 by revert s; decide, sh_four]

/-- A sum over the devices, taken from any one of them round the ring. -/
theorem sum_ring (p : Fin 4 → EReal) (c : Fin 4) : p c + p (c + 3) + p (c + 2) + p (c + 1) = ∑ d, p d := by
  rw [Fin.sum_univ_four]
  match c with
  | 0 => show p 0 + p 3 + p 2 + p 1 = _; ac_rfl
  | 1 => show p 1 + p 0 + p 3 + p 2 = _; ac_rfl
  | 2 => show p 2 + p 1 + p 0 + p 3 = _; ac_rfl
  | 3 => show p 3 + p 2 + p 1 + p 0 = _; ac_rfl

theorem sh_add (c : Fin 4) : (sh 3 c : Fin 4) = c + 3 ∧ (sh 2 c : Fin 4) = c + 2 ∧ (sh 1 c : Fin 4) = c + 1 := by
  revert c; decide

/-- Row `r`, column `h` of device `c`'s block of the result: the four devices' parts of that row. -/
theorem outAt_eq (c : Dev nD) (r : Fin 512) (h : Fin 1024) :
    outAt m c (ix2 r h) = ∑ d : Dev nD, part m d (row c r) h := by
  unfold outAt
  rw [out_sum, kept_eq, landed_eq, landed_eq, landed_eq]
  show part m c (row c r) h + part m (sh 3 c) (row c r) h + part m (sh 2 c) (row c r) h + part m (sh 1 c) (row c r) h = _
  obtain ⟨h3, h2, h1⟩ := sh_add c
  rw [h3, h2, h1]
  exact sum_ring (fun d => part m d (row c r) h) c

end Cert.MoeProof

end
-- ==== Proof.Weights.lean ====
/- Facts about extended reals both programs' values rest on: the two ways of computing a token's two gate values agree, and a
   sum over the experts of the four devices keeps only the two experts a token is routed to. -/
module

public import Idealize.ShloMosaic.Lib.Pointwise

@[expose] public section

noncomputable section

namespace Cert.MoeProof

open Idealize.ShloMosaic

/-- The gate value of a token's expert whose score is `a`, the other's being `b`. -/
def weight (a b : ℝ) : ℝ := Real.exp a / (Real.exp a + Real.exp b)

theorem weight_nonneg (a b : ℝ) : 0 ≤ weight a b := by unfold weight; positivity

/-- A quotient of reals. -/
theorem div_real (x y : ℝ) (h : y ≠ 0) : Ideal.div (x : EReal) (y : EReal) = ((x / y : ℝ) : EReal) := by
  rw [Ideal.div_coe h, ← EReal.coe_mul, mul_one_div]

/-- The exponentials of two scores, both taken from `M`, the first over their sum. -/
theorem weight_of_shift (a b M : ℝ) :
    Ideal.div (Ideal.exp ((a : EReal) - (M : EReal))) (Ideal.exp ((a : EReal) - (M : EReal)) + Ideal.exp ((b : EReal) - (M : EReal)))
      = (weight a b : EReal) := by
  rw [← EReal.coe_sub, ← EReal.coe_sub, Ideal.exp_coe, Ideal.exp_coe, ← EReal.coe_add, div_real _ _ (by positivity)]
  congr 1
  unfold weight
  rw [Real.exp_sub, Real.exp_sub]
  field_simp

/-- The same from two probabilities, the exponentials over a positive `D`. -/
theorem weight_of_probs (a b M D : ℝ) (hD : 0 < D) :
    Ideal.div (Ideal.div (Ideal.exp ((a : EReal) - (M : EReal))) (D : EReal))
        (Ideal.div (Ideal.exp ((a : EReal) - (M : EReal))) (D : EReal) + Ideal.div (Ideal.exp ((b : EReal) - (M : EReal))) (D : EReal))
      = (weight a b : EReal) := by
  rw [← EReal.coe_sub, ← EReal.coe_sub, Ideal.exp_coe, Ideal.exp_coe, div_real _ _ hD.ne', div_real _ _ hD.ne', ← EReal.coe_add,
    div_real _ _ (by positivity)]
  congr 1
  unfold weight
  rw [Real.exp_sub, Real.exp_sub]
  field_simp

/-- A sum of reals is a real. -/
theorem coe_sum {ι : Type} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]

/-- A sum of products of reals is a real. -/
theorem sum_mul_real {n : ℕ} (f g : Fin n → EReal) (hf : ∀ k, ∃ r : ℝ, f k = r) (hg : ∀ k, ∃ r : ℝ, g k = r) :
    ∃ s : ℝ, ∑ k, f k * g k = s := by
  choose u hu using hf
  choose v hv using hg
  exact ⟨∑ k, u k * v k, by simp only [hu, hv, ← EReal.coe_mul]; exact coe_sum _ _⟩

/-- The largest of some reals is a real. -/
theorem fold_max_real {n : ℕ} (s : Fin (n + 1) → ℝ) :
    ∃ M : ℝ, Finset.fold max (⊥ : EReal) (fun e => (s e : EReal)) Finset.univ = M := by
  have ht : Finset.fold max (⊥ : EReal) (fun e => (s e : EReal)) Finset.univ < ⊤ :=
    (Finset.fold_max_lt _).2 ⟨bot_lt_top, fun e _ => EReal.coe_lt_top _⟩
  have hb : ⊥ < Finset.fold max (⊥ : EReal) (fun e => (s e : EReal)) Finset.univ :=
    (Finset.lt_fold_max _).2 (Or.inr ⟨0, Finset.mem_univ _, EReal.bot_lt_coe _⟩)
  exact ⟨_, (EReal.coe_toReal ht.ne hb.ne').symm⟩

/-- The larger of two reals. -/
theorem max_real (a b : ℝ) : max (a : EReal) (b : EReal) = ((max a b : ℝ) : EReal) := (EReal.coe_strictMono.monotone.map_max).symm

/-- Of the four devices' eight experts each, only the two a token is routed to count. -/
theorem collapse (g g' : ℝ) (hg : 0 ≤ g) (hg' : 0 ≤ g') (e e' : Fin 32) (y : Fin 4 → Fin 8 → EReal) (z : Fin 32 → EReal)
    (hy : ∀ d j, y d j = z ⟨8 * d.val + j.val, by omega⟩) :
    ∑ d : Fin 4, ∑ j : Fin 8, ((if 8 * d.val + j.val = e.val then (g : EReal) else 0)
        + (if 8 * d.val + j.val = e'.val then (g' : EReal) else 0)) * y d j
      = (g : EReal) * z e + (g' : EReal) * z e' := by
  have h0 : (0 : EReal) ≤ g := by exact_mod_cast hg
  have h0' : (0 : EReal) ≤ g' := by exact_mod_cast hg'
  have hs : ∀ F : Fin 32 → EReal, ∑ d : Fin 4, ∑ j : Fin 8, F ⟨8 * d.val + j.val, by omega⟩ = ∑ i, F i := fun F => by
    rw [← Fintype.sum_prod_type' (f := fun (d : Fin 4) (j : Fin 8) => F ⟨8 * d.val + j.val, by omega⟩)]
    exact Fintype.sum_equiv (finProdFinEquiv (m := 4) (n := 8)) _ _ fun p => congrArg F (Fin.ext (Nat.add_comm _ _))
  have hF := hs fun i => ((if i = e then (g : EReal) else 0) + (if i = e' then (g' : EReal) else 0)) * z i
  refine Eq.trans ?_ (hF.trans ?_)
  · refine Finset.sum_congr rfl fun d _ => Finset.sum_congr rfl fun j _ => ?_
    simp only [hy, Fin.ext_iff]
  · have hd : ∀ i, ((if i = e then (g : EReal) else 0) + (if i = e' then (g' : EReal) else 0)) * z i
        = (if i = e then (g : EReal) * z i else 0) + (if i = e' then (g' : EReal) * z i else 0) := fun i => by
      rw [EReal.right_distrib_of_nonneg (by split_ifs <;> simp [h0]) (by split_ifs <;> simp [h0'])]
      simp only [ite_mul, zero_mul]
    simp only [hd, Finset.sum_add_distrib, Finset.sum_ite_eq', Finset.mem_univ, if_true]

end Cert.MoeProof

end
-- ==== Proof.Gates.lean ====
/- The kernel's gate values, read at an index over the reals, and with them the block of the result each device ends with. -/
module

public import proofs.«01_k».proof.Proof.Chunk
public import proofs.«01_k».proof.Proof.Weights

@[expose] public section

set_option maxRecDepth 16384

noncomputable section

namespace Cert.MoeProof

open Cert.KernelIdeal Cert.KernelIdeal.Gen
open Idealize.ShloMosaic
open Idealize.ShloMosaic.TcCoe

/-- The number of device `c`'s expert `j` among all, as the kernel computes it. -/
theorem expertWord (c : Fin 4) (j : Fin 8) :
    IntOp.addi (Scalar.muli (devWord c) 8#32) (BitVec.ofNat 32 j.val) = BitVec.ofNat 32 (8 * c.val + j.val) := by
  revert c j; decide

/-- Two words that name experts are equal when the experts are. -/
theorem cmp_word (a b : ℕ) (ha : a < 32) (hb : b < 32) :
    (IntOp.cmpi .eq (BitVec.ofNat 32 a) (BitVec.ofNat 32 b) = 1) ↔ a = b := by
  have : ∀ a b : Fin 32, (IntOp.cmpi .eq (BitVec.ofNat 32 a.val) (BitVec.ofNat 32 b.val) = 1) ↔ a.val = b.val := by decide
  exact this ⟨a, ha⟩ ⟨b, hb⟩

section
variable (x : Vec Ideal S2048x1024 .bf16) (w : Vec Ideal S1024x32 .f32) (r r' : Vec Ideal S2048x1 .i32) (i : Fin 2048)
  (s : Fin 32 → ℝ) (hs : ∀ e, ∑ k : Fin 1024, (x (ix2 i k) : EReal) * (w (ix2 k e) : EReal) = (s e : EReal))
  (e e' : Fin 32) (hr : r (ix2 i 0) = BitVec.ofNat 32 e.val) (hr' : r' (ix2 i 0) = BitVec.ofNat 32 e'.val)
include hs hr

/-- The score of a token's first expert; -/
theorem score0 : k0_pay5 (F := Ideal) x w r (ix2 i 0) = (s e : EReal) := by
  pointwise [k0_pay5, k0_pay3, k0_pay2]
  simp only [hs, hr, Scalar.select_def, cmp_word _ _ (Fin.isLt _) (Fin.isLt _), ← Fin.ext_iff, Finset.sum_ite_eq', Finset.mem_univ, if_true]

/-- and of its second. -/
theorem score1 : k0_pay6 (F := Ideal) x w r (ix2 i 0) = (s e : EReal) := by
  pointwise [k0_pay6, k0_pay4, k0_pay2]
  simp only [hs, hr, Scalar.select_def, cmp_word _ _ (Fin.isLt _) (Fin.isLt _), ← Fin.ext_iff, Finset.sum_ite_eq', Finset.mem_univ, if_true]

include hr'

/-- The gate value of a token's first expert; -/
theorem gate0 : k0_pay10 (F := Ideal) x w r r' (ix2 i 0) = (weight (s e) (s e') : EReal) := by
  pointwise [k0_pay10, k0_pay9, k0_pay8, k0_pay7]
  rw [score0 x w r i s hs e hr, score1 x w r' i s hs e' hr', max_real]
  exact weight_of_shift _ _ _

/-- and of its second. -/
theorem gate1 : k0_pay11 (F := Ideal) x w r r' (ix2 i 0) = (weight (s e') (s e) : EReal) := by
  pointwise [k0_pay11, k0_pay9, k0_pay8, k0_pay7]
  rw [score0 x w r i s hs e hr, score1 x w r' i s hs e' hr', max_real, add_comm]
  exact weight_of_shift _ _ _

end

/-- A device's gate values: at its own expert `j` a token has the value of whichever of its experts that is. -/
theorem pick_at (c : Dev nD) (r r' : IVec S2048x1 32) (g g' : FVec Ideal S2048x1 .f32) (i : Fin 2048) (j : Fin 8) (e e' : Fin 32)
    (hr : r (ix2 i 0) = BitVec.ofNat 32 e.val) (hr' : r' (ix2 i 0) = BitVec.ofNat 32 e'.val) :
    k0_pay12 (F := Ideal) (devWord c) r r' g g' (ix2 i j)
      = (if 8 * c.val + j.val = e.val then (g (ix2 i 0) : EReal) else 0) + (if 8 * c.val + j.val = e'.val then (g' (ix2 i 0) : EReal) else 0) := by
  have hc : 8 * c.val + j.val < 32 := by have h : c.val < 4 := c.isLt; omega
  pointwise [k0_pay12]
  rw [hr, hr', expertWord c j]
  simp only [Scalar.select_def, cmp_word _ _ hc (Fin.isLt _)]

variable (m : (ℓ : Loc nD τ sig) → Buf (Elt Ideal) ℓ)

theorem gates_at (c : Dev nD) (i : Fin 2048) (j : Fin 8) (s : Fin 32 → ℝ)
    (hs : ∀ e, ∑ k : Fin 1024, argX m c i k * argR m c k e = (s e : EReal))
    (e e' : Fin 32) (he : argE m c i 0 = BitVec.ofNat 32 e.val) (he' : argE m c i 1 = BitVec.ofNat 32 e'.val) :
    gates m c (ix2 i j) = (if 8 * c.val + j.val = e.val then (weight (s e) (s e') : EReal) else 0)
      + (if 8 * c.val + j.val = e'.val then (weight (s e') (s e) : EReal) else 0) := by
  have hr : route0 m c (ix2 i 0) = BitVec.ofNat 32 e.val := (route0_eq m c i).trans he
  have hr' : route1 m c (ix2 i 0) = BitVec.ofNat 32 e'.val := (route1_eq m c i).trans he'
  have hs' : ∀ e, ∑ k : Fin 1024, (xb m c (ix2 i k) : EReal) * (rstg m c (ix2 k e) : EReal) = (s e : EReal) := fun e => by
    rw [← hs e]
    exact Finset.sum_congr rfl fun k _ => congrArg₂ (· * ·) (xb_eq m c i k) (rstg_eq m c k e)
  have h3 : k0_pay3 (F := Ideal) (route0 m c) (ix2 i 0) = BitVec.ofNat 32 e.val := by
    pointwise [k0_pay3]
    exact hr
  have h4 : k0_pay4 (F := Ideal) (route1 m c) (ix2 i 0) = BitVec.ofNat 32 e'.val := by
    pointwise [k0_pay4]
    exact hr'
  unfold gates
  rw [pick_at c _ _ _ _ i j e e' h3 h4, gate0 _ _ _ _ i s hs' e e' hr hr', gate1 _ _ _ _ i s hs' e e' hr hr']

/-- Row `r`, column `h` of device `c`'s block of the result, when every device has the same activations, router and routes
    and device `d` the experts from `8 d` on: the token's two experts' products, each by its gate value. -/
theorem outAt_routed (c : Dev nD) (r : Fin 512) (h : Fin 1024) (x : Fin 1024 → EReal) (s : Fin 32 → ℝ) (W : Fin 32 → Fin 1024 → EReal)
    (hx : ∀ d k, argX m d (row c r) k = x k)
    (hs : ∀ d e, ∑ k : Fin 1024, argX m d (row c r) k * argR m d k e = (s e : EReal))
    (hW : ∀ (d : Fin 4) (j : Fin 8) k, argW m d j k h = W ⟨8 * d.val + j.val, by omega⟩ k)
    (e e' : Fin 32) (he : ∀ d, argE m d (row c r) 0 = BitVec.ofNat 32 e.val) (he' : ∀ d, argE m d (row c r) 1 = BitVec.ofNat 32 e'.val) :
    outAt m c (ix2 r h) = (weight (s e) (s e') : EReal) * (∑ k : Fin 1024, x k * W e k)
      + (weight (s e') (s e) : EReal) * (∑ k : Fin 1024, x k * W e' k) := by
  rw [outAt_eq]
  unfold part
  refine (Finset.sum_congr rfl fun d _ => Finset.sum_congr rfl fun j _ =>
    congrArg (· * ∑ k : Fin 1024, argX m d (row c r) k * argW m d j k h)
      (gates_at m d (row c r) j s (hs d) e e' (he d) (he' d))).trans ?_
  exact collapse _ _ (weight_nonneg _ _) (weight_nonneg _ _) e e' _ (fun i => ∑ k : Fin 1024, x k * W i k) fun d j =>
    Finset.sum_congr rfl fun k _ => congrArg₂ (· * ·) (hx d k) (hW d j k)

end Cert.MoeProof

end
-- ==== Proof.RefValue.lean ====
/- The reference's result, in named pieces and read at an index over the reals. -/
module

public import proofs.«01_k».proof.Proof.Gen.ReferenceIdeal.Run
public import Idealize.ShloMosaic.Lib.Pointwise
public import proofs.«01_k».proof.Proof.Weights

@[expose] public section

set_option maxRecDepth 16384

noncomputable section

namespace Cert.MoeProof.Ref

open Cert.ReferenceIdeal Cert.ReferenceIdeal.Gen Cert.ReferenceIdeal.Value
open Idealize.ShloMosaic

/-- The exponentials of the router's scores, each row's largest taken off first; -/
def expo (X : FVec Ideal S2048x1024 .f32) (R : FVec Ideal S1024x32 .f32) : FVec Ideal S2048x32 .f32 :=
  Host.exp (subf (Host.dotGeneral dot_S2048x1024_S1024x32_S2048x32_1_0_0_1_n_n none X R)
    (broadcastInDim S2048x32 ![0, 1] bcast_S2048x1_S2048x32_0_1 (broadcastInDim S2048x1 ![0] bcast_S2048_S2048x1_0
      (Host.reduce FloatOps.maximumf (Host.dotGeneral dot_S2048x1024_S1024x32_S2048x32_1_0_0_1_n_n none X R)
        (constant S_ .f32 0xFF800000#32) reducesTo_S2048x32_S2048_d1 h_S_))))

/-- the probabilities; -/
def prob (X : FVec Ideal S2048x1024 .f32) (R : FVec Ideal S1024x32 .f32) : FVec Ideal S2048x32 .f32 :=
  Host.divf (expo X R) (broadcastInDim S2048x32 ![0, 1] bcast_S2048x1_S2048x32_0_1
    (broadcastInDim S2048x1 ![0] bcast_S2048_S2048x1_0
      (Host.reduceAdd (expo X R) (constant S_ .f32 0x00000000#32) reducesTo_S2048x32_S2048_d1 h_S_)))

/-- the routes as positions along a row of the probabilities, a negative one counted from the end; -/
def pos (I : IVec S2048x2 32) : IVec S2048x2x1 32 :=
  shapeCast _ (select (cmpi .slt I (broadcastInDim S2048x2 ![] bcast_S_S2048x2 (constantI S_ 32 0#32)))
    (addi I (broadcastInDim S2048x2 ![] bcast_S_S2048x2 (constantI S_ 32 32#32))) I) shapeCasts_S2048x2_S2048x2x1

/-- which of them lie in the row; -/
def inRow (I : IVec S2048x2 32) : IVec S2048x2 1 :=
  Host.reduce IntOp.andi (andi (cmpi .sge (pos I) (broadcastInDim S2048x2x1 ![] bcast_S_S2048x2x1 (constantI S_ 32 0#32)))
    (cmpi .sle (pos I) (broadcastInDim S2048x2x1 ![0, 1, 2] bcast_S1x1x1_S2048x2x1_0_1_2
      (broadcastInDim S1x1x1 ![2] bcast_S1_S1x1x1_2 (constantI S1 32 31#32)))))
    (constantI S_ 1 1#1) reducesTo_S2048x2x1_S2048x2_d2 h_S_

/-- the two routes' probabilities; -/
def routed (P : FVec Ideal S2048x32 .f32) (I : IVec S2048x2 32) : FVec Ideal S2048x2 .f32 :=
  select (inRow I) (Host.gather gather_S2048x32_S2048x2x1_S2048x2_n_1_0_0_1_2_11 P (pos I))
    (broadcastInDim S2048x2 ![] bcast_S_S2048x2 (constant S_ .f32 0x7FC00000#32))

/-- and over their sum; -/
def share (G : FVec Ideal S2048x2 .f32) : FVec Ideal S2048x2 .f32 :=
  Host.divf G (broadcastInDim S2048x2 ![0, 1] bcast_S2048x1_S2048x2_0_1 (broadcastInDim S2048x1 ![0] bcast_S2048_S2048x1_0
    (Host.reduceAdd G (constant S_ .f32 0x00000000#32) reducesTo_S2048x2_S2048_d1 h_S_)))

/-- a column of routes as positions among the experts; -/
def pick (e : IVec S2048 32) : IVec S2048x1 32 :=
  broadcastInDim S2048x1 ![0] bcast_S2048_S2048x1_0
    (select (cmpi .slt e (broadcastInDim S2048 ![] bcast_S_S2048 (constantI S_ 32 0#32)))
      (addi e (broadcastInDim S2048 ![] bcast_S_S2048 (constantI S_ 32 32#32))) e)

/-- each row's product with the weights of the expert it is routed to; -/
def expert (X : FVec Ideal S2048x1024 .f32) (W : FVec Ideal S32x1024x1024 .f32) (e : IVec S2048x1 32) : FVec Ideal S2048x1024 .f32 :=
  Host.dotGeneral dot_S2048x1024_S2048x1024x1024_S2048x1024_1_1_n_2_0_0 none X
    (Host.gather gather_S32x1024x1024_S2048x1_S2048x1024x1024_12_0_n_n_0_1_110241024 W e)

/-- and the result. -/
def out (X : FVec Ideal S2048x1024 .f32) (R : FVec Ideal S1024x32 .f32) (I : IVec S2048x2 32)
    (W : FVec Ideal S32x1024x1024 .f32) : FVec Ideal S2048x1024 .f32 :=
  addf
    (mulf (broadcastInDim S2048x1024 ![0, 1] bcast_S2048x1_S2048x1024_0_1
        (extractStridedSlice S2048x1 ![0, 0] (share (routed (prob X R) I)) slices_S2048x2_S2048x1_0_0))
      (expert X W (pick (shapeCast _ (extractStridedSlice S2048x1 ![0, 0] I slices_S2048x2_S2048x1_0_0) shapeCasts_S2048x1_S2048))))
    (mulf (broadcastInDim S2048x1024 ![0, 1] bcast_S2048x1_S2048x1024_0_1
        (extractStridedSlice S2048x1 ![0, 1] (share (routed (prob X R) I)) slices_S2048x2_S2048x1_0_1))
      (expert X W (pick (shapeCast _ (extractStridedSlice S2048x1 ![0, 1] I slices_S2048x2_S2048x1_0_1) shapeCasts_S2048x1_S2048))))

theorem res_eq (m : (ℓ : Loc nD τ sig) → Buf (Elt Ideal) ℓ) (c : Dev nD) :
    res_main_v41 m c = out (m ((c.tc : Thread nD τ).loc main_arg0)) (m ((c.tc : Thread nD τ).loc main_arg1))
      (m ((c.tc : Thread nD τ).loc main_arg2)) (m ((c.tc : Thread nD τ).loc main_arg3)) := by
  unfold res_main_v41
  rfl

/-- A row of probabilities read at the positions of the routes. -/
theorem gather_prob (P : FVec Ideal S2048x32 .f32) (I : IVec S2048x2x1 32) (i : Fin 2048) (b : Fin 2) :
    Host.gather gather_S2048x32_S2048x2x1_S2048x2_n_1_0_0_1_2_11 P I (ix2 i b)
      = P (ix2 i ⟨min (I (ix3 i b 0)).toInt.toNat 31, by omega⟩) := by
  have s0 : gather_S2048x32_S2048x2x1_S2048x2_n_1_0_0_1_2_11.start (ix2 i b) I 0 = 0 := dif_neg (by decide)
  have b0 : gather_S2048x32_S2048x2x1_S2048x2_n_1_0_0_1_2_11.batchCoord (ix2 i b) 0 = i.val := dif_pos (by decide)
  have o0 : gather_S2048x32_S2048x2x1_S2048x2_n_1_0_0_1_2_11.offCoord (ix2 i b) 0 = 0 := dif_neg (by decide)
  have b1 : gather_S2048x32_S2048x2x1_S2048x2_n_1_0_0_1_2_11.batchCoord (ix2 i b) 1 = 0 := dif_neg (by decide)
  have o1 : gather_S2048x32_S2048x2x1_S2048x2_n_1_0_0_1_2_11.offCoord (ix2 i b) 1 = 0 := dif_neg (by decide)
  have s1 : gather_S2048x32_S2048x2x1_S2048x2_n_1_0_0_1_2_11.start (ix2 i b) I 1 = min (I (ix3 i b 0)).toInt.toNat 31 := by
    refine (dif_pos (by decide)).trans ?_
    refine congrArg (fun w : BitVec 32 => min w.toInt.toNat 31) (congrArg I (funext fun c => ?_))
    match c with
    | ⟨0, _⟩ => rfl
    | ⟨1, _⟩ => rfl
    | ⟨2, _⟩ => rfl
  unfold Host.gather
  congr 1
  funext a
  match a with
  | ⟨0, _⟩ => exact Fin.ext ((congrArg₂ (· + ·) (congrArg₂ (· + ·) s0 b0) o0).trans (by simp))
  | ⟨1, _⟩ => exact Fin.ext ((congrArg₂ (· + ·) (congrArg₂ (· + ·) s1 b1) o1).trans (by simp))

/-- The weights of the expert at a position. -/
theorem gather_expert (W : FVec Ideal S32x1024x1024 .f32) (I : IVec S2048x1 32) (i : Fin 2048) (k h : Fin 1024) :
    Host.gather gather_S32x1024x1024_S2048x1_S2048x1024x1024_12_0_n_n_0_1_110241024 W I (ix3 i k h)
      = W (ix3 ⟨min (I (ix2 i 0)).toInt.toNat 31, by omega⟩ k h) := by
  have s0 : gather_S32x1024x1024_S2048x1_S2048x1024x1024_12_0_n_n_0_1_110241024.start (ix3 i k h) I 0
      = min (I (ix2 i 0)).toInt.toNat 31 := by
    refine (dif_pos (by decide)).trans ?_
    refine congrArg (fun w : BitVec 32 => min w.toInt.toNat 31) (congrArg I (funext fun c => ?_))
    match c with
    | ⟨0, _⟩ => rfl
    | ⟨1, _⟩ => rfl
  have s1 : gather_S32x1024x1024_S2048x1_S2048x1024x1024_12_0_n_n_0_1_110241024.start (ix3 i k h) I 1 = 0 := dif_neg (by decide)
  have s2 : gather_S32x1024x1024_S2048x1_S2048x1024x1024_12_0_n_n_0_1_110241024.start (ix3 i k h) I 2 = 0 := dif_neg (by decide)
  have hb : ∀ a, gather_S32x1024x1024_S2048x1_S2048x1024x1024_12_0_n_n_0_1_110241024.batchCoord (ix3 i k h) a = 0 := fun a =>
    dif_neg (List.not_mem_nil)
  have o0 : gather_S32x1024x1024_S2048x1_S2048x1024x1024_12_0_n_n_0_1_110241024.offCoord (ix3 i k h) 0 = 0 := dif_neg (by decide)
  have o1 : gather_S32x1024x1024_S2048x1_S2048x1024x1024_12_0_n_n_0_1_110241024.offCoord (ix3 i k h) 1 = k.val := dif_pos (by decide)
  have o2 : gather_S32x1024x1024_S2048x1_S2048x1024x1024_12_0_n_n_0_1_110241024.offCoord (ix3 i k h) 2 = h.val := dif_pos (by decide)
  unfold Host.gather
  congr 1
  funext a
  match a with
  | ⟨0, _⟩ => exact Fin.ext ((congrArg₂ (· + ·) (congrArg₂ (· + ·) s0 (hb 0)) o0).trans (by simp))
  | ⟨1, _⟩ => exact Fin.ext ((congrArg₂ (· + ·) (congrArg₂ (· + ·) s1 (hb 1)) o1).trans (by simp))
  | ⟨2, _⟩ => exact Fin.ext ((congrArg₂ (· + ·) (congrArg₂ (· + ·) s2 (hb 2)) o2).trans (by simp))

/-! ## Words that name an expert -/

theorem wrap (e : Fin 32) : Scalar.select (IntOp.cmpi .slt (BitVec.ofNat 32 e.val) 0#32)
    (IntOp.addi (BitVec.ofNat 32 e.val) 32#32) (BitVec.ofNat 32 e.val) = BitVec.ofNat 32 e.val := by
  revert e; decide

theorem clamp (e : Fin 32) : min (BitVec.ofNat 32 e.val).toInt.toNat 31 = e.val := by
  revert e; decide

theorem within (e : Fin 32) : IntOp.andi (IntOp.andi (IntOp.cmpi .sge (BitVec.ofNat 32 e.val) 0#32)
    (IntOp.cmpi .sle (BitVec.ofNat 32 e.val) 31#32)) 1#1 = 1#1 := by
  revert e; decide

/-- The word the largest score is sought from is the least extended real. -/
theorem ofBits_low : Ideal.ofBits FTy.f32 0xFF800000#32 = (⊥ : EReal) := by
  simp [Ideal.ofBits, Ideal.ieee]

/-! ## The pieces at an index -/

variable (X : FVec Ideal S2048x1024 .f32) (R : FVec Ideal S1024x32 .f32) (I : IVec S2048x2 32) (W : FVec Ideal S32x1024x1024 .f32)

theorem pos_at (i : Fin 2048) (b : Fin 2) (c : Fin 1) (e : Fin 32) (he : I (ix2 i b) = BitVec.ofNat 32 e.val) :
    pos I (ix3 i b c) = BitVec.ofNat 32 e.val := by
  pointwise [pos]
  rw [he]
  exact wrap e

theorem inRow_at (i : Fin 2048) (b : Fin 2) (e : Fin 32) (he : I (ix2 i b) = BitVec.ofNat 32 e.val) : inRow I (ix2 i b) = 1#1 := by
  pointwise [inRow]
  simp only [pos_at I i b _ e he, Finset.univ_unique, Finset.fold_singleton]
  exact within e

theorem routed_at (P : FVec Ideal S2048x32 .f32) (i : Fin 2048) (b : Fin 2) (e : Fin 32) (he : I (ix2 i b) = BitVec.ofNat 32 e.val) :
    routed P I (ix2 i b) = P (ix2 i e) := by
  unfold routed
  show Scalar.select (inRow I (ix2 i b)) _ _ = _
  rw [inRow_at I i b e he, gather_prob]
  refine (Scalar.select_of_eq_one rfl _ _).trans (congrArg P (congrArg (ix2 i) (Fin.ext ?_)))
  show min (pos I (ix3 i b 0)).toInt.toNat 31 = e.val
  rw [pos_at I i b 0 e he, clamp]

theorem expert_at (E : IVec S2048 32) (i : Fin 2048) (h : Fin 1024) (e : Fin 32) (he : E (ix1 i) = BitVec.ofNat 32 e.val) :
    expert X W (pick E) (ix2 i h) = ∑ k : Fin 1024, X (ix2 i k) * W (ix3 e k h) := by
  have hp : pick E (ix2 i 0) = BitVec.ofNat 32 e.val := by
    pointwise [pick]
    rw [he]
    exact wrap e
  pointwise [expert]
  refine Finset.sum_congr rfl fun k _ => ?_
  rw [gather_expert]
  refine congrArg (fun a => X (ix2 i k) * W (ix3 a k h)) (Fin.ext ?_)
  show min (pick E (ix2 i 0)).toInt.toNat 31 = e.val
  rw [hp, clamp]

/-- The largest score of a row is a real, and so the row's probabilities have the textbook form. -/
theorem prob_at (i : Fin 2048) (s : Fin 32 → ℝ) (hs : ∀ e, ∑ k : Fin 1024, X (ix2 i k) * R (ix2 k e) = (s e : EReal)) :
    ∃ M D : ℝ, 0 < D ∧ ∀ e, prob X R (ix2 i e) = Ideal.div (Ideal.exp ((s e : EReal) - (M : EReal))) (D : EReal) := by
  obtain ⟨M, hM⟩ := fold_max_real s
  have hx : ∀ e, expo X R (ix2 i e) = Ideal.exp ((s e : EReal) - (M : EReal)) := fun e => by
    pointwise [expo]
    simp only [hs]
    rw [ofBits_low, hM]
  refine ⟨M, ∑ e, Real.exp (s e - M), Finset.sum_pos (fun e _ => Real.exp_pos _) Finset.univ_nonempty, fun e => ?_⟩
  pointwise [prob]
  simp only [hx]
  refine congrArg (Ideal.div _) ?_
  simp only [← EReal.coe_sub, Ideal.exp_coe]
  exact coe_sum _ _

/-- A token's row of the result: its two experts' products, each by its gate value. -/
theorem out_at (i : Fin 2048) (h : Fin 1024) (s : Fin 32 → ℝ)
    (hs : ∀ e, ∑ k : Fin 1024, X (ix2 i k) * R (ix2 k e) = (s e : EReal))
    (e e' : Fin 32) (he : I (ix2 i 0) = BitVec.ofNat 32 e.val) (he' : I (ix2 i 1) = BitVec.ofNat 32 e'.val) :
    out X R I W (ix2 i h) = (weight (s e) (s e') : EReal) * (∑ k : Fin 1024, X (ix2 i k) * W (ix3 e k h))
      + (weight (s e') (s e) : EReal) * (∑ k : Fin 1024, X (ix2 i k) * W (ix3 e' k h)) := by
  obtain ⟨M, D, hD, hP⟩ := prob_at X R i s hs
  have hg : share (routed (prob X R) I) (ix2 i 0) = (weight (s e) (s e') : EReal) := by
    pointwise [share]
    rw [Fin.sum_univ_two, routed_at I _ i 0 e he, routed_at I _ i 1 e' he', hP, hP]
    exact weight_of_probs _ _ _ _ hD
  have hg' : share (routed (prob X R) I) (ix2 i 1) = (weight (s e') (s e) : EReal) := by
    pointwise [share]
    rw [Fin.sum_univ_two, routed_at I _ i 0 e he, routed_at I _ i 1 e' he', hP, hP, add_comm]
    exact weight_of_probs _ _ _ _ hD
  pointwise [out]
  rw [hg, hg', expert_at X W _ i h e, expert_at X W _ i h e']
  · pointwise []
    exact he'
  · pointwise []
    exact he

end Cert.MoeProof.Ref

end
-- ==== Proof.Algebra.lean ====
/- The algebraic claim: over the reals the kernel leaves on each device that device's block of the reference's result. -/
module

public import proofs.«01_k».proof.Defs
public import proofs.«01_k».proof.Proof.Frames
public import proofs.«01_k».proof.Proof.Domain
public import proofs.«01_k».proof.Proof.Gates
public import proofs.«01_k».proof.Proof.RefValue

@[expose] public section

set_option maxRecDepth 16384

noncomputable section

namespace Cert.MoeProof

open Idealize.ShloMosaic Idealize.ShloMosaic.TcCoe Idealize.SL.Sem

/-- Row `r` of block `d` of four is row `512 d + r` of the whole. -/
theorem block_rows (v : (⟨2, ![2048, 1024]⟩ : Shape).Idx → EReal) (d : Fin 4) (h) (r : Fin 512) (l : Fin 1024) :
    Layout.block ⟨2, ![512, 1024]⟩ ⟨2, ![2048, 1024]⟩ 0 4 d v h (ix2 r l) = v (ix2 (row d r) l) := by
  rw [Layout.block_apply]
  congr 1
  funext a
  match a with
  | ⟨0, _⟩ => exact Fin.ext (show d.val * 512 + r.val = 512 * d.val + r.val by omega)
  | ⟨1, _⟩ => rfl

/-- Expert `j` of block `d` of four is expert `8 d + j` of the whole. -/
theorem block_experts (v : (⟨3, ![32, 1024, 1024]⟩ : Shape).Idx → EReal) (d : Fin 4) (h) (j : Fin 8) (k l : Fin 1024) :
    Layout.block ⟨3, ![8, 1024, 1024]⟩ ⟨3, ![32, 1024, 1024]⟩ 0 4 d v h (ix3 j k l) = v (ix3 ⟨8 * d.val + j.val, by omega⟩ k l) := by
  rw [Layout.block_apply]
  congr 1
  funext a
  match a with
  | ⟨0, _⟩ => exact Fin.ext (show d.val * 8 + j.val = 8 * d.val + j.val by omega)
  | ⟨1, _⟩ => rfl
  | ⟨2, _⟩ => rfl

section
variable (m : (ℓ : Loc KernelIdeal.nD KernelIdeal.τ KernelIdeal.sig) → Buf (Elt Ideal) ℓ)
  (X : FVec Ideal ReferenceIdeal.S2048x1024 .f32) (R : FVec Ideal ReferenceIdeal.S1024x32 .f32)
  (I : IVec ReferenceIdeal.S2048x2 32) (W : FVec Ideal ReferenceIdeal.S32x1024x1024 .f32)

/-- A device's block of the result, from the whole arguments. -/
theorem outAt_block
    (hX : ∀ c i k, argX m c i k = X (ix2 i k)) (hR : ∀ c k e, argR m c k e = R (ix2 k e)) (hI : ∀ c i b, argE m c i b = I (ix2 i b))
    (hW : ∀ (d : Fin 4) (j : Fin 8) k h, argW m d j k h = W (ix3 ⟨8 * d.val + j.val, by omega⟩ k h))
    (fX : ∀ i, ∃ r : ℝ, X i = (r : EReal)) (fR : ∀ i, ∃ r : ℝ, R i = (r : EReal)) (fI : ∀ i, ∃ e : Fin 32, I i = BitVec.ofNat 32 e.val)
    (c : Fin 4) (hT) : outAt m c = Layout.block ⟨2, ![512, 1024]⟩ ⟨2, ![2048, 1024]⟩ 0 4 c (Ref.out X R I W) hT := by
  funext j
  obtain ⟨r, h, rfl⟩ : ∃ (r : Fin 512) (h : Fin 1024), j = ix2 r h := ⟨j 0, j 1, eq_ix2 j⟩
  refine Eq.trans ?_ (block_rows (Ref.out X R I W) c hT r h).symm
  have hs : ∀ e, ∃ s : ℝ, ∑ k : Fin 1024, X (ix2 (row c r) k) * R (ix2 k e) = (s : EReal) := fun e =>
    sum_mul_real _ _ (fun k => fX _) (fun k => fR _)
  choose s hs using hs
  obtain ⟨e, he⟩ := fI (ix2 (row c r) 0)
  obtain ⟨e', he'⟩ := fI (ix2 (row c r) 1)
  rw [Ref.out_at X R I W (row c r) h s hs e e' he he']
  refine outAt_routed m c r h (fun k => X (ix2 (row c r) k)) s (fun e k => W (ix3 e k h)) (fun d k => hX d _ k) (fun d e => ?_)
    (fun d j k => hW d j k h) e e' (fun d => (hI d _ _).trans he) (fun d => (hI d _ _).trans he')
  rw [← hs e]
  exact Finset.sum_congr rfl fun k _ => congrArg₂ (· * ·) (hX d _ k) (hR d k e)

end

/-- The claim. -/
theorem algebraic : Cert.algebraic_KernelIdeal_ReferenceIdeal_pre_finite_and_routed_KernelIdeal := by
  intro m g m' g' hpre hargs
  obtain ⟨fX, fR, fI⟩ := domain _ _ _ _ (hpre 0)
  obtain ⟨a0, a1, a2, a3⟩ := hargs 0
  refine ⟨ReferenceIdeal.Value.res_main_v41 m' 0, ?_, ?_⟩
  · refine (θ_run KernelIdeal.defs _ _).mono (fun _ h c => ?_) (run_main (F := Ideal) m g)
    obtain ⟨hv, hk⟩ := kept_of_QC m h.1 c
    refine ⟨hv.trans ?_, hk⟩
    rw [Ref.res_eq]
    refine outAt_block m _ _ _ _ (fun d i k => congrFun (hargs d).1 _) (fun d k e => congrFun (hargs d).2.1 _)
      (fun d i b => congrFun (hargs d).2.2.1 _) (fun d j k h => ?_) (fun i => ?_) (fun i => ?_) (fun i => ?_) c _
    · exact (congrFun (hargs d).2.2.2 _).trans (block_experts _ d _ j k h)
    · obtain ⟨r, hr⟩ := fX i
      exact ⟨r, (congrFun a0 i).symm.trans hr⟩
    · obtain ⟨r, hr⟩ := fR i
      exact ⟨r, (congrFun a1 i).symm.trans hr⟩
    · obtain ⟨e, he⟩ := fI i
      exact ⟨e, (congrFun a2 i).symm.trans he⟩
  · exact (θ_run ReferenceIdeal.defs _ _).mono (fun _ h => h 0) (ReferenceIdeal.Value.run m' g')

end Cert.MoeProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.ShloMosaic.TcCoe Idealize.SL.Sem

/-- The kernel and its ideal form are the same text: the same bodies, -/
theorem bodies_eq : Cert.Kernel.defs₀ (F := Bits) = Cert.KernelIdeal.defs₀ (F := Bits) := by
  unfold Cert.Kernel.defs₀ Cert.KernelIdeal.defs₀
  refine congrArg Defs.onTc (funext fun l => ?_)
  match l with
  | 0 => rfl

/-- the same table. -/
theorem defs_eq : Cert.Kernel.defs (F := Bits) = Cert.KernelIdeal.defs (F := Bits) :=
  congrArg (Pipeline.defs (Cert.KernelIdeal.pcfgs (F := Bits))) bodies_eq

/-- The kernel, as it is: it ends, its arguments as they were, every semaphore at zero. -/
theorem frame_kernel : Cert.quiescent_Kernel := fun m ρ _ => by
  rw [defs_eq]
  exact Cert.MoeProof.frame_any (F := Bits) m ρ

/-- So does the kernel over the ideal numbers, -/
theorem frame_ideal : Cert.quiescent_KernelIdeal := fun m ρ _ => Cert.MoeProof.frame_any (F := Ideal) m ρ

/-- and the reference, which has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.MoeProof.preFacts, Cert.MoeProof.preFactsR,
  frame_kernel, frame_ideal, fun m ρ _ => frame_ideal m ρ trivial, frame_reference, fun m ρ _ => frame_reference m ρ trivial,
  trivial, Cert.MoeProof.algebraic⟩

end Cert.Proof

end
